-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x192x64x512 : Shape := ⟨4, ![16, 192, 64, 512]⟩
abbrev S16x63 : Shape := ⟨2, ![16, 63]⟩
abbrev S16 : Shape := ⟨1, ![16]⟩
abbrev S_ : Shape := ⟨0, ![]⟩

class Facts : Prop where
  bcast_S_S16x192x64x512 : S_.BroadcastsInDim S16x192x64x512 (![] : Fin 0 → Fin S16x192x64x512.rank)
  reducesTo_S16x192x64x512_S_d0_1_2_3 : S16x192x64x512.ReducesTo [0, 1, 2, 3] S_
  h_S_ : 0 < S_.numel
  bcast_S_S16x63 : S_.BroadcastsInDim S16x63 (![] : Fin 0 → Fin S16x63.rank)
  reducesTo_S16x63_S_d0_1 : S16x63.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg2 : IVec S16 32) (main_arg3 : IVec S16 32) (main_arg4 : IVec S_ 32) (main_v12 : IVec S_ 1) (main_v14 : IVec S16 1) (main_v15 : IVec S16 32) : IVec S_ 1 :=
  let main_v16 : IVec S16 1 := cmpi .sle main_arg2 main_v15
  let main_v17 : IVec S16 1 := andi main_v14 main_v16
  let main_c_6 : IVec S_ 1 := constantI S_ 1 1#1
  let main_v18 : IVec S_ 1 := (fun x v => Host.reduce IntOp.andi x v reducesTo_S16_S_d0 h_S_) main_v17 main_c_6
  let main_v19 : IVec S_ 1 := andi main_v12 main_v18
  let main_c_7 : IVec S_ 32 := constantI S_ 32 0#32
  let main_v20 : IVec S16 32 := broadcastInDim S16 ![] bcast_S_S16 main_c_7
  let main_v21 : IVec S16 1 := cmpi .sge main_arg3 main_v20
  let main_c_8 : IVec S_ 32 := constantI S_ 32 63#32
  let main_v22 : IVec S16 32 := broadcastInDim S16 ![] bcast_S_S16 main_c_8
  let main_v23 : IVec S16 1 := cmpi .sle main_arg3 main_v22
  let main_v24 : IVec S16 1 := andi main_v21 main_v23
  let main_c_9 : IVec S_ 1 := constantI S_ 1 1#1
  let main_v25 : IVec S_ 1 := (fun x v => Host.reduce IntOp.andi x v reducesTo_S16_S_d0 h_S_) main_v24 main_c_9
  let main_v26 : IVec S_ 1 := andi main_v19 main_v25
  let main_c_10 : IVec S_ 32 := constantI S_ 32 0#32
  let main_v27 : IVec S_ 1 := cmpi .sge main_arg4 main_c_10
  let main_v28 : IVec S_ 1 := andi main_v26 main_v27
  let main_c_11 : IVec S_ 32 := constantI S_ 32 512#32
  let main_v29 : IVec S_ 1 := cmpi .slt main_arg4 main_c_11
  let main_v30 : IVec S_ 1 := andi main_v28 main_v29
  main_v30

def fn {F : FTy → Type} [FloatOps F] (main_arg0 : FVec F S16x192x64x512 .f32) (main_arg1 : IVec S16x63 32) (main_arg2 : IVec S16 32) (main_arg3 : IVec S16 32) (main_arg4 : IVec S_ 32) : IVec S_ 1 :=
  let main_cst : FVec F S_ .f32 := constant S_ .f32 0xFF800000#32
  let main_v0 : FVec F S16x192x64x512 .f32 := broadcastInDim S16x192x64x512 ![] bcast_S_S16x192x64x512 main_cst
  let main_v1 : IVec S16x192x64x512 1 := cmpf .ogt main_arg0 main_v0
  let main_cst_0 : FVec F S_ .f32 := constant S_ .f32 0x7F800000#32
  let main_v2 : FVec F S16x192x64x512 .f32 := broadcastInDim S16x192x64x512 ![] bcast_S_S16x192x64x512 main_cst_0
  let main_v3 : IVec S16x192x64x512 1 := cmpf .olt main_arg0 main_v2
  let main_v4 : IVec S16x192x64x512 1 := andi main_v1 main_v3
  let main_c : IVec S_ 1 := constantI S_ 1 1#1
  let main_v5 : IVec S_ 1 := (fun x v => Host.reduce IntOp.andi x v reducesTo_S16x192x64x512_S_d0_1_2_3 h_S_) main_v4 main_c
  let main_c_1 : IVec S_ 32 := constantI S_ 32 0#32
  let main_v6 : IVec S16x63 32 := broadcastInDim S16x63 ![] bcast_S_S16x63 main_c_1
  let main_v7 : IVec S16x63 1 := cmpi .sge main_arg1 main_v6
  let main_c_2 : IVec S_ 32 := constantI S_ 32 512#32
  let main_v8 : IVec S16x63 32 := broadcastInDim S16x63 ![] bcast_S_S16x63 main_c_2
  let main_v9 : IVec S16x63 1 := cmpi .slt main_arg1 main_v8
  let main_v10 : IVec S16x63 1 := andi main_v7 main_v9
  let main_c_3 : IVec S_ 1 := constantI S_ 1 1#1
  let main_v11 : IVec S_ 1 := (fun x v => Host.reduce IntOp.andi x v reducesTo_S16x63_S_d0_1 h_S_) main_v10 main_c_3
  let main_v12 : IVec S_ 1 := andi main_v5 main_v11
  let main_c_4 : IVec S_ 32 := constantI S_ 32 1#32
  let main_v13 : IVec S16 32 := broadcastInDim S16 ![] bcast_S_S16 main_c_4
  let main_v14 : IVec S16 1 := cmpi .sge main_arg2 main_v13
  let main_c_5 : IVec S_ 32 := constantI S_ 32 192#32
  let main_v15 : IVec S16 32 := broadcastInDim S16 ![] bcast_S_S16 main_c_5
  fn_part1 (F := F) main_arg2 main_arg3 main_arg4 main_v12 main_v14 main_v15
-- ==== Kernel.lean ====
abbrev S16x192x64x512 : Shape := ⟨4, ![16, 192, 64, 512]⟩
abbrev S16x63 : Shape := ⟨2, ![16, 63]⟩
abbrev S16 : Shape := ⟨1, ![16]⟩
abbrev S_ : Shape := ⟨0, ![]⟩
abbrev S16x1 : Shape := ⟨2, ![16, 1]⟩
abbrev S16x64 : Shape := ⟨2, ![16, 64]⟩
abbrev S1x1x512 : Shape := ⟨3, ![1, 1, 512]⟩
abbrev S16x64x1 : Shape := ⟨3, ![16, 64, 1]⟩
abbrev S16x64x512 : Shape := ⟨3, ![16, 64, 512]⟩
abbrev S1x1 : Shape := ⟨2, ![1, 1]⟩
abbrev S1x512 : Shape := ⟨2, ![1, 512]⟩
abbrev S64x512 : Shape := ⟨2, ![64, 512]⟩
abbrev S16x16 : Shape := ⟨2, ![16, 16]⟩
abbrev S16x192x64 : Shape := ⟨3, ![16, 192, 64]⟩
abbrev S1x16x64x512 : Shape := ⟨4, ![1, 16, 64, 512]⟩
abbrev S1x64x512 : Shape := ⟨3, ![1, 64, 512]⟩
abbrev S1x16x64 : Shape := ⟨3, ![1, 16, 64]⟩
abbrev S1x64 : Shape := ⟨2, ![1, 64]⟩
abbrev S16x64x192 : Shape := ⟨3, ![16, 64, 192]⟩
abbrev S192x192 : Shape := ⟨2, ![192, 192]⟩
abbrev S1x192 : Shape := ⟨2, ![1, 192]⟩
abbrev S16x1x192 : Shape := ⟨3, ![16, 1, 192]⟩
abbrev S16x192 : Shape := ⟨2, ![16, 192]⟩

abbrev nBuf : Space → Nat
  | .hbm => 38
  | .vmem => 20
  | .smem => 0
  | _ => 0

abbrev bufTy : (tb : Table) → Fin (tcTables nBuf tb) → BufTy
  | .hbm, ⟨0, _⟩ => ⟨S16x192x64x512, .f32⟩
  | .hbm, ⟨1, _⟩ => ⟨S16x63, .i32⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S16x1, .i32⟩
  | .hbm, ⟨7, _⟩ => ⟨S16x64, .i32⟩
  | .hbm, ⟨8, _⟩ => ⟨S1x1x512, .i32⟩
  | .hbm, ⟨9, _⟩ => ⟨S16x64x1, .i32⟩
  | .hbm, ⟨10, _⟩ => ⟨S16x64x512, .i32⟩
  | .hbm, ⟨11, _⟩ => ⟨S16x64x512, .i32⟩
  | .hbm, ⟨12, _⟩ => ⟨S16x64x512, .i1⟩
  | .hbm, ⟨13, _⟩ => ⟨S16x64x512, .f32⟩
  | .hbm, ⟨14, _⟩ => ⟨S1x1, .i32⟩
  | .hbm, ⟨15, _⟩ => ⟨S1x512, .i32⟩
  | .hbm, ⟨16, _⟩ => ⟨S1x512, .i32⟩
  | .hbm, ⟨17, _⟩ => ⟨S1x512, .i1⟩
  | .hbm, ⟨18, _⟩ => ⟨S1x512, .f32⟩
  | .hbm, ⟨19, _⟩ => ⟨S64x512, .f32⟩
  | .hbm, ⟨20, _⟩ => ⟨S16x16, .i32⟩
  | .hbm, ⟨21, _⟩ => ⟨S16x16, .i32⟩
  | .hbm, ⟨22, _⟩ => ⟨S16x16, .i1⟩
  | .hbm, ⟨23, _⟩ => ⟨S16x16, .f32⟩
  | .hbm, ⟨24, _⟩ => ⟨S16x192x64, .f32⟩
  | .hbm, ⟨25, _⟩ => ⟨S16x192x64, .f32⟩
  | .hbm, ⟨26, _⟩ => ⟨S16x192x64, .f32⟩
  | .hbm, ⟨27, _⟩ => ⟨S16x64x192, .f32⟩
  | .hbm, ⟨28, _⟩ => ⟨S16x64x192, .f32⟩
  | .hbm, ⟨29, _⟩ => ⟨S16x64x192, .f32⟩
  | .hbm, ⟨30, _⟩ => ⟨S192x192, .i32⟩
  | .hbm, ⟨31, _⟩ => ⟨S192x192, .i32⟩
  | .hbm, ⟨32, _⟩ => ⟨S192x192, .i1⟩
  | .hbm, ⟨33, _⟩ => ⟨S192x192, .f32⟩
  | .hbm, ⟨34, _⟩ => ⟨S16x1, .i32⟩
  | .hbm, ⟨35, _⟩ => ⟨S16x1, .i32⟩
  | .hbm, ⟨36, _⟩ => ⟨S16x1, .f32⟩
  | .hbm, ⟨37, _⟩ => ⟨S16, .f32⟩
  | .local _ .vmem, ⟨0, _⟩ => ⟨S1x16x64x512, .f32⟩
  | .local _ .vmem, ⟨1, _⟩ => ⟨S1x16x64x512, .f32⟩
  | .local _ .vmem, ⟨2, _⟩ => ⟨S1x64x512, .f32⟩
  | .local _ .vmem, ⟨3, _⟩ => ⟨S1x64x512, .f32⟩
  | .local _ .vmem, ⟨4, _⟩ => ⟨S64x512, .f32⟩
  | .local _ .vmem, ⟨5, _⟩ => ⟨S16x16, .f32⟩
  | .local _ .vmem, ⟨6, _⟩ => ⟨S1x16x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | .local _ .vmem, ⟨10, _⟩ => ⟨S1x16x64, .f32⟩
  | .local _ .vmem, ⟨11, _⟩ => ⟨S1x16x64, .f32⟩
  | .local _ .vmem, ⟨12, _⟩ => ⟨S1x64, .f32⟩
  | .local _ .vmem, ⟨13, _⟩ => ⟨S16x64x192, .f32⟩
  | .local _ .vmem, ⟨14, _⟩ => ⟨S16x64x192, .f32⟩
  | .local _ .vmem, ⟨15, _⟩ => ⟨S16x64x192, .f32⟩
  | .local _ .vmem, ⟨16, _⟩ => ⟨S192x192, .f32⟩
  | .local _ .vmem, ⟨17, _⟩ => ⟨S16x1, .i32⟩
  | .local _ .vmem, ⟨18, _⟩ => ⟨S16x1, .i32⟩
  | .local _ .vmem, ⟨19, _⟩ => ⟨S16x1, .f32⟩
  | _, _ => ⟨S16x192x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨2, ![16, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := .none

@[reducible] def k1_t1_loop : Scf.Loop 32 :=
  let c1_i32_11 : BitVec 32 := 1#32
  let c63_i32 : BitVec 32 := 63#32
  let v23 : BitVec 32 := Scalar.addi c1_i32_11 c63_i32
  let c1_i32_12 : BitVec 32 := 1#32
  ⟨c1_i32_11, v23, c1_i32_12⟩
def k1_off1 (k1_t1 : Fin k1_t1_loop.trips) : Fin 3 → Nat :=
  let c0_19 : Index := 0#32
  let c1_i32_11 : BitVec 32 := 1#32
  let c1_i32_12 : BitVec 32 := 1#32
  let arg7 : BitVec 32 := Scf.iv c1_i32_11 c1_i32_12 k1_t1
  let c1_i32_18 : BitVec 32 := 1#32
  let v30 : BitVec 32 := Scalar.subi arg7 c1_i32_18
  let v31 : Index := Scalar.indexCast v30
  let c0_20 : Index := 0#32
  ![0, v31.toNat, 0]
def k1_off2 (k1_t1 : Fin k1_t1_loop.trips) : Fin 3 → Nat :=
  let c0_21 : Index := 0#32
  let c1_i32_11 : BitVec 32 := 1#32
  let c1_i32_12 : BitVec 32 := 1#32
  let arg7 : BitVec 32 := Scf.iv c1_i32_11 c1_i32_12 k1_t1
  let v35 : Index := Scalar.indexCast arg7
  let c0_22 : Index := 0#32
  ![0, v35.toNat, 0]
abbrev stage1_0 : Fin 1 → Memref sig .tc .vmem S16x64x192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S192x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S16x192x64x512 : Shape := ⟨4, ![16, 192, 64, 512]⟩
abbrev S16x63 : Shape := ⟨2, ![16, 63]⟩
abbrev S16 : Shape := ⟨1, ![16]⟩
abbrev S_ : Shape := ⟨0, ![]⟩
abbrev S16x192x64 : Shape := ⟨3, ![16, 192, 64]⟩
abbrev S16x192x64x1 : Shape := ⟨4, ![16, 192, 64, 1]⟩
abbrev S16x1x63x1 : Shape := ⟨4, ![16, 1, 63, 1]⟩
abbrev S16x192x63x1 : Shape := ⟨4, ![16, 192, 63, 1]⟩
abbrev S16x192x63x512 : Shape := ⟨4, ![16, 192, 63, 512]⟩
abbrev S16x192x63x1x1 : Shape := ⟨5, ![16, 192, 63, 1, 1]⟩
abbrev S1 : Shape := ⟨1, ![1]⟩
abbrev S1x1x1x1x1 : Shape := ⟨5, ![1, 1, 1, 1, 1]⟩
abbrev S16x192x63 : Shape := ⟨3, ![16, 192, 63]⟩
abbrev S16x192x1 : Shape := ⟨3, ![16, 192, 1]⟩
abbrev S16x1x64 : Shape := ⟨3, ![16, 1, 64]⟩
abbrev S16x64 : Shape := ⟨2, ![16, 64]⟩
abbrev S16x191x64 : Shape := ⟨3, ![16, 191, 64]⟩
abbrev S191x16x64 : Shape := ⟨3, ![191, 16, 64]⟩
abbrev S1x16x64 : Shape := ⟨3, ![1, 16, 64]⟩
abbrev S192x16x64 : Shape := ⟨3, ![192, 16, 64]⟩
abbrev S16x1 : Shape := ⟨2, ![16, 1]⟩
abbrev S16x3 : Shape := ⟨2, ![16, 3]⟩

abbrev nBuf : Space → Nat
  | .hbm => 193
  | .vmem => 0
  | .smem => 0
  | _ => 0

abbrev hbmTy0_0 (i : Nat) : BufTy := match i % 128 with
  | 0 => ⟨S16x192x64x512, .f32⟩
  | 1 => ⟨S16x63, .i32⟩
  | 2 => ⟨S16, .i32⟩
  | 3 => ⟨S16, .i32⟩
  | 4 => ⟨S_, .i32⟩
  | 5 => ⟨S_, .f32⟩
  | 6 => ⟨S16x192x64, .f32⟩
  | 7 => ⟨S_, .f32⟩
  | 8 => ⟨S16x192x64, .f32⟩
  | 9 => ⟨S16x192x64, .f32⟩
  | 10 => ⟨S_, .f32⟩
  | 11 => ⟨S16x192x64, .f32⟩
  | 12 => ⟨S16x192x64, .i1⟩
  | 13 => ⟨S_, .f32⟩
  | 14 => ⟨S16x192x64, .f32⟩
  | 15 => ⟨S16x192x64, .i1⟩
  | 16 => ⟨S16x192x64, .i1⟩
  | 17 => ⟨S_, .f32⟩
  | 18 => ⟨S16x192x64, .f32⟩
  | 19 => ⟨S16x192x64, .f32⟩
  | 20 => ⟨S16x192x64x1, .f32⟩
  | 21 => ⟨S16x192x64x512, .f32⟩
  | 22 => ⟨S16x192x64x512, .f32⟩
  | 23 => ⟨S16x192x64x512, .f32⟩
  | 24 => ⟨S_, .f32⟩
  | 25 => ⟨S16x192x64, .f32⟩
  | 26 => ⟨S16x192x64, .f32⟩
  | 27 => ⟨S16x192x64, .f32⟩
  | 28 => ⟨S16x192x64, .f32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S16x192x64x1, .f32⟩
  | 59 => ⟨S16x192x64, .f32⟩
  | 60 => ⟨S16x192x64, .f32⟩
  | 61 => ⟨S16x1x63x1, .i32⟩
  | 62 => ⟨S16x192x63x1, .i32⟩
  | 63 => ⟨S16x192x63x512, .f32⟩
  | 64 => ⟨S_, .i32⟩
  | 65 => ⟨S16x192x63x1, .i32⟩
  | 66 => ⟨S16x192x63x1, .i1⟩
  | 67 => ⟨S_, .i32⟩
  | 68 => ⟨S16x192x63x1, .i32⟩
  | 69 => ⟨S16x192x63x1, .i32⟩
  | 70 => ⟨S16x192x63x1, .i32⟩
  | 71 => ⟨S16x192x63x1x1, .i32⟩
  | 72 => ⟨S1, .i32⟩
  | 73 => ⟨S_, .i32⟩
  | 74 => ⟨S16x192x63x1x1, .i32⟩
  | 75 => ⟨S16x192x63x1x1, .i1⟩
  | 76 => ⟨S1x1x1x1x1, .i32⟩
  | 77 => ⟨S16x192x63x1x1, .i32⟩
  | 78 => ⟨S16x192x63x1x1, .i1⟩
  | 79 => ⟨S16x192x63x1x1, .i1⟩
  | 80 => ⟨S_, .i1⟩
  | 81 => ⟨S16x192x63x1, .i1⟩
  | 82 => ⟨S16x192x63x1, .f32⟩
  | 83 => ⟨S_, .f32⟩
  | 84 => ⟨S16x192x63x1, .f32⟩
  | 85 => ⟨S16x192x63x1, .f32⟩
  | 86 => ⟨S16x192x63, .f32⟩
  | 87 => ⟨S16x192x63, .f32⟩
  | 88 => ⟨S16x192x63, .f32⟩
  | 89 => ⟨S_, .f32⟩
  | 90 => ⟨S16x192x1, .f32⟩
  | 91 => ⟨S_, .f32⟩
  | 92 => ⟨S_, .f32⟩
  | 93 => ⟨S16x192x63, .f32⟩
  | 94 => ⟨S16x192x64, .f32⟩
  | 95 => ⟨S16x1x64, .f32⟩
  | 96 => ⟨S16x64, .f32⟩
  | 97 => ⟨S16x191x64, .f32⟩
  | 98 => ⟨S191x16x64, .f32⟩
  | 99 => ⟨S16x191x64, .f32⟩
  | 100 => ⟨S191x16x64, .f32⟩
  | 101 => ⟨S_, .f32⟩
  | 102 => ⟨S191x16x64, .f32⟩
  | 103 => ⟨S_, .i32⟩
  | 104 => ⟨S191x16x64, .f32⟩
  | 105 => ⟨S191x16x64, .f32⟩
  | 106 => ⟨S_, .i32⟩
  | 107 => ⟨S16x64, .f32⟩
  | 108 => ⟨S191x16x64, .f32⟩
  | 109 => ⟨S_, .i32⟩
  | 110 => ⟨S_, .i1⟩
  | 111 => ⟨S_, .i32⟩
  | 112 => ⟨S_, .i32⟩
  | 113 => ⟨S1x16x64, .f32⟩
  | 114 => ⟨S16x64, .f32⟩
  | 115 => ⟨S_, .i32⟩
  | 116 => ⟨S_, .i32⟩
  | 117 => ⟨S1x16x64, .f32⟩
  | 118 => ⟨S16x64, .f32⟩
  | 119 => ⟨S16x64, .f32⟩
  | 120 => ⟨S16x64, .f32⟩
  | 121 => ⟨S16x64, .f32⟩
  | 122 => ⟨S_, .f32⟩
  | 123 => ⟨S_, .f32⟩
  | 124 => ⟨S16x64, .f32⟩
  | 125 => ⟨S16x64, .f32⟩
  | 126 => ⟨S16x64, .f32⟩
  | 127 => ⟨S1x16x64, .f32⟩
  | _ => ⟨S16x192x64x512, .f32⟩

abbrev hbmTy0_1 (i : Nat) : BufTy := match i % 128 with
  | 0 => ⟨S_, .i32⟩
  | 1 => ⟨S_, .i32⟩
  | 2 => ⟨S191x16x64, .f32⟩
  | 3 => ⟨S_, .i32⟩
  | 4 => ⟨S_, .i32⟩
  | 5 => ⟨S1x16x64, .f32⟩
  | 6 => ⟨S192x16x64, .f32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S_, .i32⟩
  | 19 => ⟨S16, .i32⟩
  | 20 => ⟨S16, .i1⟩
  | 21 => ⟨S_, .i32⟩
  | 22 => ⟨S16, .i32⟩
  | 23 => ⟨S16, .i32⟩
  | 24 => ⟨S16, .i32⟩
  | 25 => ⟨S_, .i32⟩
  | 26 => ⟨S16, .i32⟩
  | 27 => ⟨S16, .i1⟩
  | 28 => ⟨S_, .i32⟩
  | 29 => ⟨S16, .i32⟩
  | 30 => ⟨S16, .i32⟩
  | 31 => ⟨S16, .i32⟩
  | 32 => ⟨S16x1, .i32⟩
  | 33 => ⟨S16x1, .i32⟩
  | 34 => ⟨S16x1, .i32⟩
  | 35 => ⟨S16x3, .i32⟩
  | 36 => ⟨S16, .f32⟩
  | 37 => ⟨S_, .i32⟩
  | 38 => ⟨S16, .i32⟩
  | 39 => ⟨S16, .i1⟩
  | 40 => ⟨S_, .i32⟩
  | 41 => ⟨S16, .i32⟩
  | 42 => ⟨S16, .i32⟩
  | 43 => ⟨S16, .i32⟩
  | 44 => ⟨S_, .i32⟩
  | 45 => ⟨S16, .i32⟩
  | 46 => ⟨S16, .i1⟩
  | 47 => ⟨S_, .i32⟩
  | 48 => ⟨S16, .i32⟩
  | 49 => ⟨S16, .i32⟩
  | 50 => ⟨S16, .i32⟩
  | 51 => ⟨S_, .i32⟩
  | 52 => ⟨S16, .i32⟩
  | 53 => ⟨S16, .i1⟩
  | 54 => ⟨S_, .i32⟩
  | 55 => ⟨S16, .i32⟩
  | 56 => ⟨S16, .i32⟩
  | 57 => ⟨S16, .i32⟩
  | 58 => ⟨S16x1, .i32⟩
  | 59 => ⟨S16x1, .i32⟩
  | 60 => ⟨S16x1, .i32⟩
  | 61 => ⟨S16x3, .i32⟩
  | 62 => ⟨S16, .f32⟩
  | 63 => ⟨S16, .f32⟩
  | 64 => ⟨S16, .f32⟩
  | _ => ⟨S16x192x64x512, .f32⟩

abbrev hbmTy (i : Nat) : BufTy := match i / 128 with
  | 0 => hbmTy0_0 i
  | 1 => hbmTy0_1 i
  | _ => ⟨S16x192x64x512, .f32⟩

abbrev bufTy : (tb : Table) → Fin (tcTables nBuf tb) → BufTy
  | .hbm, ⟨i, _⟩ => hbmTy i
  | _, _ => ⟨S16x192x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_c_5 : Ref sig .tc := ⟨.hbm, 30, rfl⟩
abbrev main_v18 : Ref sig .tc := ⟨.hbm, 31, rfl⟩
abbrev main_c_6 : Ref sig .tc := ⟨.hbm, 32, rfl⟩
abbrev main_c_7 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_c_9 : Ref sig .tc := ⟨.hbm, 37, rfl⟩
abbrev main_c_10 : Ref sig .tc := ⟨.hbm, 38, rfl⟩
abbrev main_v21 : Ref sig .tc := ⟨.hbm, 39, rfl⟩
abbrev main_c_11 : Ref sig .tc := ⟨.hbm, 40, rfl⟩
abbrev main_c_12 : Ref sig .tc := ⟨.hbm, 41, rfl⟩
abbrev main_v22 : Ref sig .tc := ⟨.hbm, 42, rfl⟩
abbrev main_c_13 : Ref sig .tc := ⟨.hbm, 43, rfl⟩
abbrev main_v23 : Ref sig .tc := ⟨.hbm, 44, rfl⟩
abbrev main_c_14 : Ref sig .tc := ⟨.hbm, 45, rfl⟩
abbrev main_c_15 : Ref sig .tc := ⟨.hbm, 46, rfl⟩
abbrev main_v24 : Ref sig .tc := ⟨.hbm, 47, rfl⟩
abbrev main_c_16 : Ref sig .tc := ⟨.hbm, 48, rfl⟩
abbrev main_c_17 : Ref sig .tc := ⟨.hbm, 49, rfl⟩
abbrev main_v25 : Ref sig .tc := ⟨.hbm, 50, rfl⟩
abbrev main_c_18 : Ref sig .tc := ⟨.hbm, 51, rfl⟩
abbrev main_v26 : Ref sig .tc := ⟨.hbm, 52, rfl⟩
abbrev main_c_19 : Ref sig .tc := ⟨.hbm, 53, rfl⟩
abbrev main_v27 : Ref sig .tc := ⟨.hbm, 54, rfl⟩
abbrev main_c_20 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call0_c : Ref sig .tc := ⟨.hbm, 64, rfl⟩
abbrev main_call0_v0 : Ref sig .tc := ⟨.hbm, 65, rfl⟩
abbrev main_call0_v1 : Ref sig .tc := ⟨.hbm, 66, rfl⟩
abbrev main_call0_c_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_c_1 : Ref sig .tc := ⟨.hbm, 72, rfl⟩
abbrev main_call0_c_2 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_3 : Ref sig .tc := ⟨.hbm, 80, rfl⟩
abbrev main_call0_v12 : Ref sig .tc := ⟨.hbm, 81, rfl⟩
abbrev main_call0_v13 : Ref sig .tc := ⟨.hbm, 82, rfl⟩
abbrev main_call0_cst : Ref sig .tc := ⟨.hbm, 83, rfl⟩
abbrev main_call0_v14 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_21 : Ref sig .tc := ⟨.hbm, 89, rfl⟩
abbrev main_v40 : Ref sig .tc := ⟨.hbm, 90, rfl⟩
abbrev main_call1_call0_cst : Ref sig .tc := ⟨.hbm, 91, rfl⟩
abbrev main_call1_call0_v0 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_22 : Ref sig .tc := ⟨.hbm, 101, rfl⟩
abbrev main_v49 : Ref sig .tc := ⟨.hbm, 102, rfl⟩
abbrev main_c_23 : Ref sig .tc := ⟨.hbm, 103, rfl⟩
abbrev main_v50_0 : Ref sig .tc := ⟨.hbm, 104, rfl⟩
abbrev main_v50_1 : Ref sig .tc := ⟨.hbm, 105, rfl⟩
abbrev main_v50_2 : Ref sig .tc := ⟨.hbm, 106, rfl⟩
abbrev main_v50_3 : Ref sig .tc := ⟨.hbm, 107, rfl⟩
abbrev main_v50_4 : Ref sig .tc := ⟨.hbm, 108, rfl⟩
abbrev main_while0c_c_41 : Ref sig .tc := ⟨.hbm, 109, rfl⟩
abbrev main_while0c_v98 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_v0 : Ref sig .tc := ⟨.hbm, 113, rfl⟩
abbrev main_while0b_v98 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_call3_v0 : Ref sig .tc := ⟨.hbm, 117, rfl⟩
abbrev main_while0b_v99 : Ref sig .tc := ⟨.hbm, 118, rfl⟩
abbrev main_while0b_v100 : Ref sig .tc := ⟨.hbm, 119, rfl⟩
abbrev main_while0b_v101 : Ref sig .tc := ⟨.hbm, 120, rfl⟩
abbrev main_while0b_v102 : Ref sig .tc := ⟨.hbm, 121, rfl⟩
abbrev main_while0b_call4_call0_cst : Ref sig .tc := ⟨.hbm, 122, rfl⟩
abbrev main_while0b_call4_call0_v0 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_call5_v0 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_v106 : Ref sig .tc := ⟨.hbm, 130, rfl⟩
abbrev main_while0b_c_41 : Ref sig .tc := ⟨.hbm, 131, rfl⟩
abbrev main_while0b_v107 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_c_24 : Ref sig .tc := ⟨.hbm, 136, rfl⟩
abbrev main_v54 : Ref sig .tc := ⟨.hbm, 137, rfl⟩
abbrev main_v55 : Ref sig .tc := ⟨.hbm, 138, rfl⟩
abbrev main_c_25 : Ref sig .tc := ⟨.hbm, 139, rfl⟩
abbrev main_v56 : Ref sig .tc := ⟨.hbm, 140, rfl⟩
abbrev main_v57 : Ref sig .tc := ⟨.hbm, 141, rfl⟩
abbrev main_c_26 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_c_27 : Ref sig .tc := ⟨.hbm, 146, rfl⟩
abbrev main_v61 : Ref sig .tc := ⟨.hbm, 147, rfl⟩
abbrev main_v62 : Ref sig .tc := ⟨.hbm, 148, rfl⟩
abbrev main_c_28 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_c_29 : Ref sig .tc := ⟨.hbm, 153, rfl⟩
abbrev main_v66 : Ref sig .tc := ⟨.hbm, 154, rfl⟩
abbrev main_v67 : Ref sig .tc := ⟨.hbm, 155, rfl⟩
abbrev main_c_30 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_c_31 : Ref sig .tc := ⟨.hbm, 165, rfl⟩
abbrev main_v76 : Ref sig .tc := ⟨.hbm, 166, rfl⟩
abbrev main_v77 : Ref sig .tc := ⟨.hbm, 167, rfl⟩
abbrev main_c_32 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_c_33 : Ref sig .tc := ⟨.hbm, 172, rfl⟩
abbrev main_v81 : Ref sig .tc := ⟨.hbm, 173, rfl⟩
abbrev main_v82 : Ref sig .tc := ⟨.hbm, 174, rfl⟩
abbrev main_c_34 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_c_35 : Ref sig .tc := ⟨.hbm, 179, rfl⟩
abbrev main_v86 : Ref sig .tc := ⟨.hbm, 180, rfl⟩
abbrev main_v87 : Ref sig .tc := ⟨.hbm, 181, rfl⟩
abbrev main_c_36 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩

abbrev nD : Nat := 1
abbrev τ : Topo := Topo.v7x

variable {F : FTy → Type} [FloatOps F]

abbrev main_while0_count : Scf.Loop 32 := ⟨0#32, 191#32, 1#32⟩
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first region: log-probabilities and their running sums over time -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a buffer of this shape, as a rectangle. -/
abbrev r0_0 : Rect S1x16x64x512 := Rect.unit (s := S1x16x64x512) ![0, 0, 0, 0] S1x16x64x512.size inb_S1x16x64x512_S1x16x64x512_0_0_0_0
/-- The whole of a buffer of this shape, as a rectangle. -/
abbrev r0_1 : Rect S64x512 := Rect.unit (s := S64x512) ![0, 0] S64x512.size inb_S64x512_S64x512_0_0
/-- The whole of a buffer of this shape, as a rectangle. -/
abbrev r0_2 : Rect S1x16x64 := Rect.unit (s := S1x16x64) ![0, 0, 0] S1x16x64.size inb_S1x16x64_S1x16x64_0_0_0
/-- The whole of a buffer of this shape, as a rectangle. -/
abbrev r0_3 : Rect S1x64x512 := Rect.unit (s := S1x64x512) ![0, 0, 0] S1x64x512.size inb_S1x64x512_S1x64x512_0_0_0
/-- The whole of a buffer of this shape, as a rectangle. -/
abbrev r0_4 : Rect S16x16 := Rect.unit (s := S16x16) ![0, 0] S16x16.size inb_S16x16_S16x16_0_0
/-- The whole of a buffer of this shape, as a rectangle. -/
abbrev r0_5 : Rect S1x64 := Rect.unit (s := S1x64) ![0, 0] S1x64.size inb_S1x64_S1x64_0_0

/-! A load or a store of a whole buffer is the buffer's contents. -/

/-- A list of zeros is zero at every place. -/
theorem zeros2 (a : Fin 2) : (![0, 0] : Fin 2 → ℕ) a = 0 := by fin_cases a <;> rfl
/-- A list of zeros is zero at every place. -/
theorem zeros3 (a : Fin 3) : (![0, 0, 0] : Fin 3 → ℕ) a = 0 := by fin_cases a <;> rfl
/-- A list of zeros is zero at every place. -/
theorem zeros4 (a : Fin 4) : (![0, 0, 0, 0] : Fin 4 → ℕ) a = 0 := by fin_cases a <;> rfl

/-- Loading the whole of a buffer gives its contents. -/
theorem ld_r0_0 (x : Vec F S1x16x64x512 .f32) : View.ld x r0_0 = x := View.ld_unit_lit _ _ zeros4
/-- Loading the whole of a buffer gives its contents. -/
theorem ld_r0_1 (x : Vec F S64x512 .f32) : View.ld x r0_1 = x := View.ld_unit_lit _ _ zeros2
/-- Loading the whole of a buffer gives its contents. -/
theorem ld_r0_3 (x : Vec F S1x64x512 .f32) : View.ld x r0_3 = x := View.ld_unit_lit _ _ zeros3
/-- Loading the whole of a buffer gives its contents. -/
theorem ld_r0_4 (x : Vec F S16x16 .f32) : View.ld x r0_4 = x := View.ld_unit_lit _ _ zeros2
/-- Loading the whole of a buffer gives its contents. -/
theorem ld_r0_5 (x : Vec F S1x64 .f32) : View.ld x r0_5 = x := View.ld_unit_lit _ _ zeros2

/-- A store to the whole of a buffer covers every index. -/
theorem cover3 (p : Vec F S1x16x64 .f32) (y : S1x16x64.Idx) :
    ∃ pc ∈ ([⟨r0_2, p⟩] : List (View.Piece (Elt F) S1x16x64 .f32)), y ∈ pc.1.set :=
  View.cover_of_tiled [⟨r0_2, p⟩] S1x16x64.size (by rfl) y
/-- A store to the whole of a buffer covers every index. -/
theorem cover2 (p : Vec F S1x64 .f32) (L : List (View.Piece (Elt F) S1x64 .f32)) (y : S1x64.Idx) :
    ∃ pc ∈ (⟨r0_5, p⟩ :: L : List (View.Piece (Elt F) S1x64 .f32)), y ∈ pc.1.set := by
  obtain ⟨pc, hp, hy⟩ := View.cover_of_tiled (Val := Elt F) (e := .f32) [⟨r0_5, p⟩] S1x64.size (by rfl) y
  exact ⟨pc, by simp at hp; simp [hp], hy⟩
/-- After a store to the whole of a buffer, the buffer holds what was stored. -/
theorem canon3 (p : Vec F S1x16x64 .f32) : View.canon ([⟨r0_2, p⟩] : List (View.Piece (Elt F) S1x16x64 .f32)) = p :=
  View.canon_cons_unit_lit _ _ _ zeros3
/-- After a store to the whole of a buffer, the buffer holds what was stored. -/
theorem canon2 (p : Vec F S1x64 .f32) (L : List (View.Piece (Elt F) S1x64 .f32)) :
    View.canon (⟨r0_5, p⟩ :: L : List (View.Piece (Elt F) S1x64 .f32)) = p :=
  View.canon_cons_unit_lit _ _ _ zeros2

/-- A read of the whole of a buffer is its contents. -/
theorem rd0 (a : Memref sig .tc .vmem S1x16x64x512 .f32) (f) : View.readAt (Elt F) a.view r0_0.toLoadRect f = a.view.read (Elt F) f := ld_r0_0 _
/-- A read of the whole of a buffer is its contents. -/
theorem rd1 (a : Memref sig .tc .vmem S64x512 .f32) (f) : View.readAt (Elt F) a.view r0_1.toLoadRect f = a.view.read (Elt F) f := ld_r0_1 _
/-- A read of the whole of a buffer is its contents. -/
theorem rd3 (a : Memref sig .tc .vmem S1x64x512 .f32) (f) : View.readAt (Elt F) a.view r0_3.toLoadRect f = a.view.read (Elt F) f := ld_r0_3 _
/-- A read of the whole of a buffer is its contents. -/
theorem rd4 (a : Memref sig .tc .vmem S16x16 .f32) (f) : View.readAt (Elt F) a.view r0_4.toLoadRect f = a.view.read (Elt F) f := ld_r0_4 _
/-- A read of the whole of a buffer is its contents. -/
theorem rd5 (a : Memref sig .tc .vmem S1x64 .f32) (f) : View.readAt (Elt F) a.view r0_5.toLoadRect f = a.view.read (Elt F) f := ld_r0_5 _
/-- A read of the whole carry after a store to the whole of it is what was stored. -/
theorem rdw5 (a : Memref sig .tc .vmem S1x64 .f32) (f) (p : Vec F S1x64 .f32) (L : List (View.Piece (Elt F) S1x64 .f32)) :
    a.view.read (Elt F) (a.view.writes (Elt F) f (⟨r0_5, p⟩ :: L)) = p :=
  (View.read_writes_eq_canon _ _ _ (cover2 p L)).trans (canon2 p L)

/-- The carry just set to zero reads as zero. -/
theorem v36_eq (a : Memref sig .tc .vmem S1x64 .f32) :
    a.view.readCov (Val := Elt F) (⟨r0_5, k0_pay9⟩ :: []) r0_5.toLoadRect = k0_pay9 := by
  unfold View.readCov; exact (rd5 a _).trans (rdw5 a _ _ _)

/-! ## What the body leaves in each output buffer and in the carried row -/

/-- The block of blank log-probabilities. -/
def lpbOut (x0 : Vec F S1x16x64x512 .f32) (x2 : Vec F S64x512 .f32) : Vec F S1x16x64 .f32 := k0_pay7 x0 x2
/-- The block of label log-probabilities. -/
def lplOut (x0 : Vec F S1x16x64x512 .f32) (x1 : Vec F S1x64x512 .f32) : Vec F S1x16x64 .f32 := k0_pay8 x0 x1
/-- The block of running sums of the blank log-probabilities, from the carried row `s`. -/
def qOut (x0 : Vec F S1x16x64x512 .f32) (x2 : Vec F S64x512 .f32) (x3 : Vec F S16x16 .f32) (s : Vec F S1x64 .f32) : Vec F S1x16x64 .f32 :=
  k0_pay2 (k0_pay6 x0 x2) x3 s
/-- The carried row after the block, from the carried row `s` before it. -/
def carryOut (x0 : Vec F S1x16x64x512 .f32) (x2 : Vec F S64x512 .f32) (x3 : Vec F S16x16 .f32) (s : Vec F S1x64 .f32) : Vec F S1x64 .f32 :=
  k0_pay3 (k0_pay6 x0 x2) x3 s

/-- The body's condition: the second grid coordinate is zero. -/
abbrev cond0_0 (i : grid0.Coords) : Prop := (Scalar.cmpi .ne (Scalar.extui (Scalar.cmpi .eq (BitVec.ofNat 32 (i 1).val) 0#32)) 0#32) = 1#1
/-- It holds at the points divisible by 12. -/
theorem hcond0_0 : ∀ t : Fin cfg0.N, cond0_0 (grid0.coords t) ↔ t.val % 12 = 0 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The scratch row carried between points. -/
abbrev scM0_0 : Memref sig .tc .vmem S1x64 .f32 := Memref.whole cc0_scratch0

/-- The second region's staging buffers, which this region leaves alone. -/
def rest0 (c : Dev nD) : sProp 𝕄 :=
  iprop((∃ f, (c : Thread nD τ).loc cc1_stg0_0 ↦{fullShare} f) ∗ (∃ f, (c : Thread nD τ).loc cc1_stg1_0 ↦{fullShare} f)
    ∗ (∃ f, (c : Thread nD τ).loc cc1_stg2_0 ↦{fullShare} f) ∗ (∃ f, (c : Thread nD τ).loc cc1_stg3_0 ↦{fullShare} f)
    ∗ (∃ f, (c : Thread nD τ).loc cc1_stg4_0 ↦{fullShare} f) ∗ (∃ f, (c : Thread nD τ).loc cc1_stg5_0 ↦{fullShare} f)
    ∗ (∃ f, (c : Thread nD τ).loc cc1_stg6_0 ↦{fullShare} f))

/-- The region's invariant with the scratch row owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole, rest0]; try rfl

/-! ## The body's triple -/

set_option maxHeartbeats 1000000 in
/-- At a point where the carried row is reset, the body leaves each output at its block computed from a zero row. -/
theorem sound0_reset (c : Dev nD) (E : Set ℕ) (i : grid0.Coords) (arg2 : Memref sig .tc .vmem S1x16x64x512 .f32) (harg2 : arg2.IsWhole) (arg3 : Memref sig .tc .vmem S1x64x512 .f32) (harg3 : arg3.IsWhole) (arg4 : Memref sig .tc .vmem S64x512 .f32) (harg4 : arg4.IsWhole) (arg5 : Memref sig .tc .vmem S16x16 .f32) (harg5 : arg5.IsWhole) (arg6 : Memref sig .tc .vmem S1x16x64 .f32) (harg6 : arg6.IsWhole) (arg7 : Memref sig .tc .vmem S1x16x64 .f32) (harg7 : arg7.IsWhole) (arg8 : Memref sig .tc .vmem S1x16x64 .f32) (harg8 : arg8.IsWhole) (arg9 : Memref sig .tc .vmem S1x64 .f32) (harg9 : arg9.IsWhole) (hc0 : cond0_0 i)
    (x0 : Vec F S1x16x64x512 .f32) (x1 : Vec F S1x64x512 .f32) (x2 : Vec F S64x512 .f32) (x3 : Vec F S16x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (lpbOut x0 x2) ∗ owns (c : Thread nD τ) arg7 fullShare (lplOut x0 x1) ∗ owns (c : Thread nD τ) arg8 fullShare (qOut x0 x2 x3 k0_pay9) ∗ owns (c : Thread nD τ) arg9 fullShare (carryOut x0 x2 x3 k0_pay9)) -∗ K ⟨⟩))
      ⊢ wp frame (wpE (defs₀ (F := F)) Variants.none c none) E (cc0_rnnt_prep i arg2 harg2 arg3 harg3 arg4 harg4 arg5 harg5 arg6 harg6 arg7 harg7 arg8 harg8 arg9 harg9) K := by
  simp only [cc0_rnnt_prep_eq_skeleton]; unfold cc0_rnnt_prep_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover3 _)).trans ?_
    rw [canon3]; unfold lpbOut; exact congrArg₂ _ (rd0 _ _) (rd1 _ _)
  isplitl [H5]
  · iexists _; isplitr
    swap; · iexact H5
    ipureintro
    refine (View.read_writes_eq_canon _ _ _ (cover3 _)).trans ?_
    rw [canon3]; unfold lplOut; exact congrArg₂ _ (rd0 _ _) (rd3 _ _)
  isplitl [H6]
  · iexists _; isplitr
    swap; · iexact H6
    ipureintro
    refine (View.read_writes_eq_canon _ _ _ (cover3 _)).trans ?_
    rw [canon3]; unfold qOut; exact congr (congrArg₂ k0_pay2 (congrArg₂ k0_pay6 (rd0 arg2 f0) (rd1 arg4 f2)) (rd4 arg5 f3)) (v36_eq arg9)
  iexists _; isplitr
  swap; · iexact HS0
  ipureintro
  refine (rdw5 _ _ _ _).trans ?_
  unfold carryOut; exact congr (congrArg₂ k0_pay3 (congrArg₂ k0_pay6 (rd0 arg2 f0) (rd1 arg4 f2)) (rd4 arg5 f3)) (v36_eq arg9)

set_option maxHeartbeats 1000000 in
/-- At any other point, the body leaves each output at its block computed from the carried row. -/
theorem sound0_carry (c : Dev nD) (E : Set ℕ) (i : grid0.Coords) (arg2 : Memref sig .tc .vmem S1x16x64x512 .f32) (harg2 : arg2.IsWhole) (arg3 : Memref sig .tc .vmem S1x64x512 .f32) (harg3 : arg3.IsWhole) (arg4 : Memref sig .tc .vmem S64x512 .f32) (harg4 : arg4.IsWhole) (arg5 : Memref sig .tc .vmem S16x16 .f32) (harg5 : arg5.IsWhole) (arg6 : Memref sig .tc .vmem S1x16x64 .f32) (harg6 : arg6.IsWhole) (arg7 : Memref sig .tc .vmem S1x16x64 .f32) (harg7 : arg7.IsWhole) (arg8 : Memref sig .tc .vmem S1x16x64 .f32) (harg8 : arg8.IsWhole) (arg9 : Memref sig .tc .vmem S1x64 .f32) (harg9 : arg9.IsWhole) (hc0 : ¬cond0_0 i)
    (x0 : Vec F S1x16x64x512 .f32) (x1 : Vec F S1x64x512 .f32) (x2 : Vec F S64x512 .f32) (x3 : Vec F S16x16 .f32) (s : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (lpbOut x0 x2) ∗ owns (c : Thread nD τ) arg7 fullShare (lplOut x0 x1) ∗ owns (c : Thread nD τ) arg8 fullShare (qOut x0 x2 x3 s) ∗ owns (c : Thread nD τ) arg9 fullShare (carryOut x0 x2 x3 s)) -∗ K ⟨⟩))
      ⊢ wp frame (wpE (defs₀ (F := F)) Variants.none c none) E (cc0_rnnt_prep i arg2 harg2 arg3 harg3 arg4 harg4 arg5 harg5 arg6 harg6 arg7 harg7 arg8 harg8 arg9 harg9) K := by
  simp only [cc0_rnnt_prep_eq_skeleton]; unfold cc0_rnnt_prep_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
  subst hf0 hf1 hf2 hf3 hfs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover3 _)).trans ?_
    rw [canon3]; unfold lpbOut; exact congrArg₂ _ (rd0 _ _) (rd1 _ _)
  isplitl [H5]
  · iexists _; isplitr
    swap; · iexact H5
    ipureintro
    refine (View.read_writes_eq_canon _ _ _ (cover3 _)).trans ?_
    rw [canon3]; unfold lplOut; exact congrArg₂ _ (rd0 _ _) (rd3 _ _)
  isplitl [H6]
  · iexists _; isplitr
    swap; · iexact H6
    ipureintro
    refine (View.read_writes_eq_canon _ _ _ (cover3 _)).trans ?_
    rw [canon3]; unfold qOut; exact congr (congrArg₂ k0_pay2 (congrArg₂ k0_pay6 (rd0 arg2 f0) (rd1 arg4 f2)) (rd4 arg5 f3)) (rd5 arg9 fs0)
  iexists _; isplitr
  swap; · iexact HS0
  ipureintro
  refine (rdw5 _ _ _ _).trans ?_
  unfold carryOut; exact congr (congrArg₂ k0_pay3 (congrArg₂ k0_pay6 (rd0 arg2 f0) (rd1 arg4 f2)) (rd4 arg5 f3)) (rd5 arg9 fs0)

/-! ## The pipeline's proof data -/

/-- The row carried out of point `n`. -/
def carryAt (c : Dev nD) : (n : ℕ) → n < cfg0.N → Vec F S1x64 .f32
  | 0, h => carryOut (iblk0 V c 0 ⟨0, h⟩) (iblk0 V c 2 ⟨0, h⟩) (iblk0 V c 3 ⟨0, h⟩) k0_pay9
  | n + 1, h => carryOut (iblk0 V c 0 ⟨n + 1, h⟩) (iblk0 V c 2 ⟨n + 1, h⟩) (iblk0 V c 3 ⟨n + 1, h⟩)
      (if (n + 1) % 12 = 0 then k0_pay9 else carryAt c n (Nat.lt_of_succ_lt h))

/-- The row point `n` starts from: zeros where it is reset, else what the point before left. -/
def carryIn (c : Dev nD) (n : ℕ) (h : n < cfg0.N) : Vec F S1x64 .f32 :=
  if n % 12 = 0 then k0_pay9 else carryAt V c (n - 1) (lt_of_le_of_lt (Nat.sub_le _ _) h)

/-- The carry after a grid point, from the carry before it. -/
theorem carryAt_eq (c : Dev nD) (n : ℕ) (h : n < cfg0.N) :
    carryAt V c n h = carryOut (iblk0 V c 0 ⟨n, h⟩) (iblk0 V c 2 ⟨n, h⟩) (iblk0 V c 3 ⟨n, h⟩) (carryIn V c n h) := by
  cases n with
  | zero => rfl
  | succ n => rfl

/-- At the first block of a batch row the carry is zero. -/
theorem carryIn_reset (c : Dev nD) (n : ℕ) (h : n < cfg0.N) (h0 : n % 12 = 0) : carryIn V c n h = k0_pay9 := if_pos h0
/-- At a later block of a batch row the carry is the one the block before left. -/
theorem carryIn_carry (c : Dev nD) (n : ℕ) (h : n < cfg0.N) (h0 : ¬n % 12 = 0) :
    carryIn V c n h = carryAt V c (n - 1) (lt_of_le_of_lt (Nat.sub_le _ _) h) := if_neg h0

/-- The invariant before point `n`: the scratch row at what the point before left. -/
def PhiS (c : Dev nD) : (n : ℕ) → n ≤ cfg0.N → sProp 𝕄
  | 0, _ => Pipeline.ΦA spec0 c
  | n + 1, h => iprop(iprop(owns (c : Thread nD τ) scM0_0 fullShare (carryAt V c n h) ∗ rest0 c) ∗ (∃ r, prngReg c r))

/-- What is held between two grid points, case by case in their number. -/
theorem PhiS_zero (c : Dev nD) (n : ℕ) (h : n ≤ cfg0.N) (hz : n = 0) : PhiS V c n h = Pipeline.ΦA spec0 c := by
  subst hz; rfl
/-- What is held between two grid points, case by case in their number. -/
theorem PhiS_succ (c : Dev nD) (n : ℕ) (hn : n < cfg0.N) :
    PhiS V c (n + 1) hn = iprop(iprop(owns (c : Thread nD τ) scM0_0 fullShare (carryAt V c n hn) ∗ rest0 c) ∗ (∃ r, prngReg c r)) := rfl
/-- What is held between two grid points, case by case in their number. -/
theorem PhiS_pos (c : Dev nD) (n : ℕ) (h : n ≤ cfg0.N) (hz : n ≠ 0) :
    PhiS V c n h = iprop(iprop(owns (c : Thread nD τ) scM0_0 fullShare (carryAt V c (n - 1) (by omega)) ∗ rest0 c) ∗ (∃ r, prngReg c r)) := by
  cases n with
  | zero => exact absurd rfl hz
  | succ n => rfl

/-- The first pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => lpbOut (iblk0 V c 0 t) (iblk0 V c 2 t)
    | ⟨5, _⟩ => lplOut (iblk0 V c 0 t) (iblk0 V c 1 t)
    | ⟨6, _⟩ => qOut (iblk0 V c 0 t) (iblk0 V c 2 t) (iblk0 V c 3 t) (carryIn V c t.val t.isLt)
  Φ t := PhiS V c t.val (Nat.le_of_lt_succ t.isLt)
  q _ := fullShare
  owed _ := 0

/-- The array of each window is the one the call is given. -/
theorem A_eq0 (c : Dev nD) (w : Fin cfg0.W) : (dat0 V c).A w = V c (Pipeline.arrRef spec0 w) := by
  dsimp only [dat0]

/-- What is held between two grid points, case by case in their number. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What window 0 holds after the body. -/
theorem after0_0 (c : Dev nD) (t : Fin cfg0.N) : (dat0 V c).after 0 t = iblk0 V c 0 t := by dsimp only [dat0]
/-- What window 1 holds after the body. -/
theorem after0_1 (c : Dev nD) (t : Fin cfg0.N) : (dat0 V c).after 1 t = iblk0 V c 1 t := by dsimp only [dat0]
/-- What window 2 holds after the body. -/
theorem after0_2 (c : Dev nD) (t : Fin cfg0.N) : (dat0 V c).after 2 t = iblk0 V c 2 t := by dsimp only [dat0]
/-- What window 3 holds after the body. -/
theorem after0_3 (c : Dev nD) (t : Fin cfg0.N) : (dat0 V c).after 3 t = iblk0 V c 3 t := by dsimp only [dat0]
/-- What window 4 holds after the body. -/
theorem after0_4 (c : Dev nD) (t : Fin cfg0.N) : (dat0 V c).after 4 t = lpbOut (iblk0 V c 0 t) (iblk0 V c 2 t) := by dsimp only [dat0]
/-- What window 5 holds after the body. -/
theorem after0_5 (c : Dev nD) (t : Fin cfg0.N) : (dat0 V c).after 5 t = lplOut (iblk0 V c 0 t) (iblk0 V c 1 t) := by dsimp only [dat0]
/-- What window 6 holds after the body. -/
theorem after0_6 (c : Dev nD) (t : Fin cfg0.N) : (dat0 V c).after 6 t = qOut (iblk0 V c 0 t) (iblk0 V c 2 t) (iblk0 V c 3 t) (carryIn V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What window 1 holds before the body: its block. -/
theorem before0_1 (c : Dev nD) (t : Fin cfg0.N) (d) : (dat0 V c).before 1 t d = iblk0 V c 1 t :=
  before0_1_of V (dat0 V c) (A_eq0 V c 1) (after0_1 V c) t d
/-- What window 2 holds before the body: its block. -/
theorem before0_2 (c : Dev nD) (t : Fin cfg0.N) (d) : (dat0 V c).before 2 t d = iblk0 V c 2 t :=
  before0_2_of V (dat0 V c) (A_eq0 V c 2) (after0_2 V c) t d
/-- What window 3 holds before the body: its block. -/
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, after0_6]
  rw [show (dat0 V c).Φ t.succ = PhiS V c (t.val + 1) t.isLt from rfl, PhiS_succ, carryAt_eq]
  have hN : t.val < 192 := lt_of_lt_of_eq t.isLt (show cfg0.N = 192 from N_0)
  by_cases h0 : t.val % 12 = 0
  · rw [carryIn_reset V c _ _ h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound0_reset c Set.univ (grid0.coords t) _ _ _ _ _ _ _ _ _ _ _ _ _ _ _ _ ((hcond0_0 t).mpr h0) (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      iintro ⟨H0, H1, H2, H3, H4, H5, H6, HS0⟩
      isplitl [HS0 Hr Hg]
      · isplitl [HS0 Hr]
        · isplitl [HS0]
          · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound0_reset c Set.univ (grid0.coords t) _ _ _ _ _ _ _ _ _ _ _ _ _ _ _ _ ((hcond0_0 t).mpr h0) (iblk0 V c 0 t) (iblk0 V c 1 t) (iblk0 V c 2 t) (iblk0 V c 3 t) _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      iintro ⟨H0, H1, H2, H3, H4, H5, H6, HS0⟩
      isplitl [HS0 Hr Hg]
      · isplitl [HS0 Hr]
        · isplitl [HS0]
          · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := by omega
    rw [carryIn_carry V c _ _ h0, PhiS_castSucc V c t, PhiS_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound0_carry c Set.univ (grid0.coords t) _ _ _ _ _ _ _ _ _ _ _ _ _ _ _ _ (fun h => h0 ((hcond0_0 t).mp h)) (iblk0 V c 0 t) (iblk0 V c 1 t) (iblk0 V c 2 t) (iblk0 V c 3 t) _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]
        · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- The same after the last point. -/
theorem hout0 (c : Dev nD) : (dat0 V c).Φ (Fin.last cfg0.N) ⊢ Pipeline.ΦA spec0 c := by
  have ht : (Fin.last cfg0.N).val ≠ 0 := by rw [Fin.val_last]; have : cfg0.N = 192 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Cert.KernelIdeal.Whole

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Pipeline.ValueKit.Acc
public import Idealize.ShloMosaic.Lib.Ring
public import Idealize.ShloMosaic.Lib.Tactic
public import Idealize.ShloMosaic.Lib.WordCmp
public import proofs.«01_k».proof.Proof.Region0

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second region: the dynamic program over the grid of states -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S16x1 .f32 := (Memref.whole cc1_stg6_0 : Memref sig .tc .vmem S16x1 .f32).view
/-- Each window's current staging memref at point `t`, spelled as the pipeline passes it (`bodyAt1`), and its wholeness. -/
abbrev ms1_0 (t : Fin cfg1.N) : Memref sig .tc .vmem S16x64x192 .f32 := win1_0.stage (cfg1.slots t 0)
/-- The staging buffer of window 0 is a whole buffer. -/
abbrev hs1_0 (t : Fin cfg1.N) : (ms1_0 t).IsWhole := hstage1_0 0
/-- The staging buffer of window 1. -/
abbrev ms1_1 (t : Fin cfg1.N) : Memref sig .tc .vmem S16x64x192 .f32 := win1_1.stage (cfg1.slots t 1)
/-- The staging buffer of window 1 is a whole buffer. -/
abbrev hs1_1 (t : Fin cfg1.N) : (ms1_1 t).IsWhole := hstage1_1 0
/-- The staging buffer of window 2. -/
abbrev ms1_2 (t : Fin cfg1.N) : Memref sig .tc .vmem S16x64x192 .f32 := win1_2.stage (cfg1.slots t 2)
/-- The staging buffer of window 2 is a whole buffer. -/
abbrev hs1_2 (t : Fin cfg1.N) : (ms1_2 t).IsWhole := hstage1_2 0
/-- The staging buffer of window 3. -/
abbrev ms1_3 (t : Fin cfg1.N) : Memref sig .tc .vmem S192x192 .f32 := win1_3.stage (cfg1.slots t 3)
/-- The staging buffer of window 3 is a whole buffer. -/
abbrev hs1_3 (t : Fin cfg1.N) : (ms1_3 t).IsWhole := hstage1_3 0
/-- The staging buffer of window 4. -/
abbrev ms1_4 (t : Fin cfg1.N) : Memref sig .tc .vmem S16x1 .i32 := win1_4.stage (cfg1.slots t 4)
/-- The staging buffer of window 4 is a whole buffer. -/
abbrev hs1_4 (t : Fin cfg1.N) : (ms1_4 t).IsWhole := hstage1_4 0
/-- The staging buffer of window 5. -/
abbrev ms1_5 (t : Fin cfg1.N) : Memref sig .tc .vmem S16x1 .i32 := win1_5.stage (cfg1.slots t 5)
/-- The staging buffer of window 5 is a whole buffer. -/
abbrev hs1_5 (t : Fin cfg1.N) : (ms1_5 t).IsWhole := hstage1_5 0
/-- The staging buffer of window 6. -/
abbrev ms1_6 (t : Fin cfg1.N) : Memref sig .tc .vmem S16x1 .f32 := win1_6.stage (cfg1.slots t 6)
/-- The staging buffer of window 6 is a whole buffer. -/
abbrev hs1_6 (t : Fin cfg1.N) : (ms1_6 t).IsWhole := hstage1_6 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun1_A (c : Dev nD) (arg0 : Memref sig .tc .vmem S16x64x192 .f32) (harg0 : arg0.IsWhole) (arg1 : Memref sig .tc .vmem S16x64x192 .f32) (harg1 : arg1.IsWhole) (arg2 : Memref sig .tc .vmem S16x64x192 .f32) (harg2 : arg2.IsWhole) (arg3 : Memref sig .tc .vmem S192x192 .f32) (harg3 : arg3.IsWhole) (arg4 : Memref sig .tc .vmem S16x1 .i32) (harg4 : arg4.IsWhole) (arg5 : Memref sig .tc .vmem S16x1 .i32) (harg5 : arg5.IsWhole) (arg6 : Memref sig .tc .vmem S16x1 .f32) (harg6 : arg6.IsWhole)
    (x0 : Vec F S16x64x192 .f32) (x1 : Vec F S16x64x192 .f32) (x2 : Vec F S16x64x192 .f32) (x3 : Vec F S192x192 .f32) (x4 : Vec F S16x1 .i32) (x5 : Vec F S16x1 .i32) :
    { L6 : List (View.Piece (Elt F) S16x1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6)) -∗ K ⟨⟩))
          ⊢ wp frame (wpE (defs₀ (F := F)) Variants.none c none) E (cc1_rnnt_dp arg0 harg0 arg1 harg1 arg2 harg2 arg3 harg3 arg4 harg4 arg5 harg5 arg6 harg6) K } := by
  refine ⟨?_, fun E K => ?run⟩
  case run =>
    simp only [cc1_rnnt_dp_eq_skeleton]; unfold cc1_rnnt_dp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

/-- The run's pieces for output 6 tile its block (1 store of `S16x1`, checked by the kernel's evaluation: Lib/Ring.lean `Piece.tiledL`, linear in the pieces, through a loop's `@[irreducible]` trip theorem too), so they cover it. -/
theorem cover1_A_6 (c : Dev nD) (arg0 : Memref sig .tc .vmem S16x64x192 .f32) (harg0 : arg0.IsWhole) (arg1 : Memref sig .tc .vmem S16x64x192 .f32) (harg1 : arg1.IsWhole) (arg2 : Memref sig .tc .vmem S16x64x192 .f32) (harg2 : arg2.IsWhole) (arg3 : Memref sig .tc .vmem S192x192 .f32) (harg3 : arg3.IsWhole) (arg4 : Memref sig .tc .vmem S16x1 .i32) (harg4 : arg4.IsWhole) (arg5 : Memref sig .tc .vmem S16x1 .i32) (harg5 : arg5.IsWhole) (arg6 : Memref sig .tc .vmem S16x1 .f32) (harg6 : arg6.IsWhole)
    (x0 : Vec F S16x64x192 .f32) (x1 : Vec F S16x64x192 .f32) (x2 : Vec F S16x64x192 .f32) (x3 : Vec F S192x192 .f32) (x4 : Vec F S16x1 .i32) (x5 : Vec F S16x1 .i32) (y : S16x1.Idx) :
    ∃ pc ∈ (kernelRun1_A c arg0 harg0 arg1 harg1 arg2 harg2 arg3 harg3 arg4 harg4 arg5 harg5 arg6 harg6 x0 x1 x2 x3 x4 x5).1, y ∈ pc.1.set :=
  View.cover_of_tiledL (kernelRun1_A c arg0 harg0 arg1 harg1 arg2 harg2 arg3 harg3 arg4 harg4 arg5 harg5 arg6 harg6 x0 x1 x2 x3 x4 x5).1 S16x1.size (by sl_kernel_rfl) y

/-- What the run leaves in output 6's staging buffer: its pieces read back over junk. -/
def out1_A_6 (c : Dev nD) (arg0 : Memref sig .tc .vmem S16x64x192 .f32) (harg0 : arg0.IsWhole) (arg1 : Memref sig .tc .vmem S16x64x192 .f32) (harg1 : arg1.IsWhole) (arg2 : Memref sig .tc .vmem S16x64x192 .f32) (harg2 : arg2.IsWhole) (arg3 : Memref sig .tc .vmem S192x192 .f32) (harg3 : arg3.IsWhole) (arg4 : Memref sig .tc .vmem S16x1 .i32) (harg4 : arg4.IsWhole) (arg5 : Memref sig .tc .vmem S16x1 .i32) (harg5 : arg5.IsWhole) (arg6 : Memref sig .tc .vmem S16x1 .f32) (harg6 : arg6.IsWhole)
    (x0 : Vec F S16x64x192 .f32) (x1 : Vec F S16x64x192 .f32) (x2 : Vec F S16x64x192 .f32) (x3 : Vec F S192x192 .f32) (x4 : Vec F S16x1 .i32) (x5 : Vec F S16x1 .i32) : Vec F S16x1 .f32 :=
  VO1_6.read (Elt F) (VO1_6.writes (Elt F) VO1_6.junk (kernelRun1_A c arg0 harg0 arg1 harg1 arg2 harg2 arg3 harg3 arg4 harg4 arg5 harg5 arg6 harg6 x0 x1 x2 x3 x4 x5).1)

/-! ## What the outputs hold after each point -/

/-- What the outputs' staging buffers hold after the body at point `t`: the run's contents at
    the point's memrefs and input blocks. -/
def outsAt1 (c : Dev nD) (t : Fin cfg1.N) : Vec F S16x1 .f32 :=
  out1_A_6 c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t)

/-! ## The pipeline's proof data -/

/-- The proof data of pipeline 1 on core `c`: the arrays as the region finds them (`V`); after the body at
    point `t` each input's buffer at its block and the outputs' at `outsAt1`; the invariant the class's
    ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What window 1 holds after the body. -/
theorem after1_1 (c : Dev nD) (t : Fin cfg1.N) : (dat1 V c).after 1 t = iblk1 V c 1 t := by dsimp only [dat1]
/-- What window 2 holds after the body. -/
theorem after1_2 (c : Dev nD) (t : Fin cfg1.N) : (dat1 V c).after 2 t = iblk1 V c 2 t := by dsimp only [dat1]
/-- What window 3 holds after the body. -/
theorem after1_3 (c : Dev nD) (t : Fin cfg1.N) : (dat1 V c).after 3 t = iblk1 V c 3 t := by dsimp only [dat1]
/-- What window 4 holds after the body. -/
theorem after1_4 (c : Dev nD) (t : Fin cfg1.N) : (dat1 V c).after 4 t = iblk1 V c 4 t := by dsimp only [dat1]
/-- What window 5 holds after the body. -/
theorem after1_5 (c : Dev nD) (t : Fin cfg1.N) : (dat1 V c).after 5 t = iblk1 V c 5 t := by dsimp only [dat1]
/-- What window 6 holds after the body. -/
theorem after1_6 (c : Dev nD) (t : Fin cfg1.N) : (dat1 V c).after 6 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What window 1 holds before the body: its block. -/
theorem before1_1 (c : Dev nD) (t : Fin cfg1.N) (d) : (dat1 V c).before 1 t d = iblk1 V c 1 t :=
  before1_1_of V (dat1 V c) (A_eq1 V c 1) (after1_1 V c) t d
/-- What window 2 holds before the body: its block. -/
theorem before1_2 (c : Dev nD) (t : Fin cfg1.N) (d) : (dat1 V c).before 2 t d = iblk1 V c 2 t :=
  before1_2_of V (dat1 V c) (A_eq1 V c 2) (after1_2 V c) t d
/-- What window 3 holds before the body: its block. -/
theorem before1_3 (c : Dev nD) (t : Fin cfg1.N) (d) : (dat1 V c).before 3 t d = iblk1 V c 3 t :=
  before1_3_of V (dat1 V c) (A_eq1 V c 3) (after1_3 V c) t d
/-- What window 4 holds before the body: its block. -/
theorem before1_4 (c : Dev nD) (t : Fin cfg1.N) (d) : (dat1 V c).before 4 t d = iblk1 V c 4 t :=
  before1_4_of V (dat1 V c) (A_eq1 V c 4) (after1_4 V c) t d
/-- What window 5 holds before the body: its block. -/
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1
  unfold out1_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_A_6 c _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Pipeline.ValueKit.Acc
public import Idealize.ShloMosaic.Lib.Ring
public import Idealize.ShloMosaic.Lib.Tactic
public import Idealize.ShloMosaic.Lib.WordCmp
public import proofs.«01_k».proof.Proof.Region1

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c, main_v0, main_v1, main_v2, main_v3, main_v4, main_v5, main_v6, main_v7, main_v8, main_v9, main_v10, main_v11, main_v12, main_v13, main_v14, main_v15, main_v16, main_v17]
/-- The operations of this stretch write no buffer outside the list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v19, main_v20, main_v21, main_v22, main_v23, main_v24, main_v25, main_v26, main_v27]
/-- The operations of this stretch write no buffer outside the list. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v29]
/-- The operations of this stretch write no buffer outside the list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the start the arguments are as launched. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are still as launched after this stretch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered . -/
def W2 (c : Dev nD) : Valuation τ sig (Elt F) :=
  Pipeline.withArrays spec0 c (W1 m ρ c) fun w => (dat0 (V1 m ρ) c).arrAt w cfg0.N
/-- After the call, each of its arrays holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The call changes no buffer that is not one of its arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are still as launched after this stretch. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The call changes no buffer that is not one of its arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are still as launched after this stretch. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered . -/
def W4 (c : Dev nD) : Valuation τ sig (Elt F) :=
  Pipeline.withArrays spec1 c (W3 m ρ c) fun w => (dat1 (V3 m ρ) c).arrAt w cfg1.N
/-- After the call, each of its arrays holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- The call changes no buffer that is not one of its arrays. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are still as launched after this stretch. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The call changes no buffer that is not one of its arrays. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are still as launched after this stretch. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- Argument 0 ends as launched. -/
theorem W5_main_arg0 (c : Dev nD) : W5 m ρ c (Proc.devRef .tc main_arg0) = m ((c : Thread nD τ).loc main_arg0) :=
  W5_args m ρ c main_arg0 (by decide)
/-- Argument 1 ends as launched. -/
theorem W5_main_arg1 (c : Dev nD) : W5 m ρ c (Proc.devRef .tc main_arg1) = m ((c : Thread nD τ).loc main_arg1) :=
  W5_args m ρ c main_arg1 (by decide)
/-- Argument 2 ends as launched. -/
theorem W5_main_arg2 (c : Dev nD) : W5 m ρ c (Proc.devRef .tc main_arg2) = m ((c : Thread nD τ).loc main_arg2) :=
  W5_args m ρ c main_arg2 (by decide)
/-- Argument 3 ends as launched. -/
theorem W5_main_arg3 (c : Dev nD) : W5 m ρ c (Proc.devRef .tc main_arg3) = m ((c : Thread nD τ).loc main_arg3) :=
  W5_args m ρ c main_arg3 (by decide)
/-- Argument 4 ends as launched. -/
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop of the program needs a variant of its own. -/
abbrev 𝒱₀ : Variants := Variants.none
/-- No core owes another anything: no level is assigned. -/
abbrev L : GSem nD τ sig → Finset Unit := fun _ => ∅
/-- Every counter is at level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin0 (V1 m ρ) c); unfold Pipeline.ΦA
    iintro ⟨Hp, -, Hr⟩
    isplitl [Hr]; · iexact Hr
    iexact Hp
  hout c := by
    refine BI.BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution ends, nothing faulting, with the argument arrays as launched, every counter at zero, and the result
    array at the last boundary's contents. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v29) = W5 m ρ c main_v29)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       h c _ (mem_uc main_v29 (by decide))⟩), funext fun g => hz g (.inr (no_unscoped g.2))⟩)

/-- The frame: every execution ends, nothing faulting, with the argument arrays as launched and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_all m ρ)

end Cert.KernelIdeal.Whole

end
-- ==== Proof.RefFrame.lean ====
module

public import proofs.«01_k».proof.Proof.Gen.ReferenceIdeal.Run
public import Idealize.ShloMosaic.Lib.Quiescent

@[expose] public section

set_option maxRecDepth 16384

noncomputable section

namespace Cert.ReferenceIdeal.Whole

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The references the operations after the loop write, in order. -/
abbrev hostOps0_5_W : List (Ref sig .tc) := [main_v51, main_v52, main_v53, main_c_24, main_v54, main_v55, main_c_25, main_v56, main_v57, main_c_26, main_v58, main_v59, main_v60, main_c_27, main_v61, main_v62, main_c_28, main_v63, main_v64, main_v65, main_c_29, main_v66, main_v67, main_c_30, main_v68, main_v69, main_v70, main_v71, main_v72, main_v73, main_v74, main_v75, main_c_31, main_v76, main_v77, main_c_32, main_v78, main_v79, main_v80, main_c_33, main_v81, main_v82, main_c_34, main_v83, main_v84, main_v85, main_c_35, main_v86, main_v87, main_c_36, main_v88, main_v89, main_v90, main_v91, main_v92, main_v93, main_v94, main_v95, main_v96, main_v97]
/-- The operations of this stretch write no buffer outside the list. -/
theorem hostOps0_5_writes : (hostOps0_5 : List (HloOp τ sig (Elt F))).Forall fun op => op.writes ⊆ (hostOps0_5_W.map (Proc.devRef (τ := τ) .tc)).toFinset :=
  StableHlo.forall_writes_sub_of_map rfl

/-- Every reference the loop's condition and body write. -/
abbrev loop_W : List (Ref sig .tc) :=
  condOps_W ++ while0Ops0_W ++ while0Ops0_1_W ++ while0Ops0_2_W ++ while0Ops0_3_W ++ while0Ops0_4_W ++ while0Ops0_5_W ++ while0Ops0_6_W
/-- Every reference the operations before the loop write. -/
abbrev pre_W : List (Ref sig .tc) := hostOps0_W ++ hostOps0_1_W ++ hostOps0_2_W ++ hostOps0_3_W ++ hostOps0_4_W

/-- A reference no operation of the loop writes keeps its contents across one trip. -/
theorem trip_keeps (V : Valuation τ sig (Elt F)) (r : Ref sig .tc) (h : r ∉ loop_W) :
    afterL bodyI (after condOps V) (Proc.devRef .tc r) = V (Proc.devRef .tc r) := by
  simp only [loop_W, List.mem_append, not_or] at h
  obtain ⟨⟨⟨⟨⟨⟨⟨h0, h1⟩, h2⟩, h3⟩, h4⟩, h5⟩, h6⟩, h7⟩ := h
  simp only [afterL_cons, afterL_nil]
  rw [after_of_writes_sub while0Ops0_6 _ while0Ops0_6_writes h7, after_of_writes_sub while0Ops0_5 _ while0Ops0_5_writes h6,
    after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

/-- A reference no operation of the loop writes keeps its contents across the loop. -/
theorem atK_keeps (c : Dev nD) (r : Ref sig .tc) (h : r ∉ loop_W) : ∀ k, atK m k c (Proc.devRef .tc r) = entryContents preI m c (Proc.devRef .tc r)
  | 0 => rfl
  | k + 1 => (trip_keeps (atK m k c) r h).trans (atK_keeps c r h k)

/-- A reference no operation before the loop writes is as launched at the loop's entry. -/
theorem entry_keeps (c : Dev nD) (r : Ref sig .tc) (h : r ∉ pre_W) :
    entryContents preI m c (Proc.devRef .tc r) = m ((c.tc : Thread nD τ).loc r) := by
  simp only [pre_W, List.mem_append, not_or] at h
  obtain ⟨⟨⟨⟨h0, h1⟩, h2⟩, h3⟩, h4⟩ := h
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What the operations after the loop start from. -/
abbrev exitC (c : Dev nD) : Valuation τ sig (Elt F) := after condOps (atK m 191 c)

/-- A buffer the loop does not write is after the loop as it was before it. -/
theorem exit_keeps (c : Dev nD) (r : Ref sig .tc) (h : r ∉ loop_W) :
    exitC m c (Proc.devRef .tc r) = entryContents preI m c (Proc.devRef .tc r) := by
  have h0 : r ∉ condOps_W := fun hc => h (by simp only [loop_W, List.mem_append]; tauto)
  rw [exitC, after_of_writes_sub condOps _ condOps_writes h0, atK_keeps m c r h]

/-- The argument arrays end as launched. -/
theorem final_arg (c : Dev nD) (r : Ref sig .tc) (h5 : r ∉ hostOps0_5_W) (hl : r ∉ loop_W) (hp : r ∉ pre_W) :
    finalContents condOps preI bodyI postI 191 m c (Proc.devRef .tc r) = m ((c.tc : Thread nD τ).loc r) := by
  simp only [finalContents, afterL_cons, afterL_nil]
  rw [after_of_writes_sub hostOps0_5 _ hostOps0_5_writes h5]
  exact (exit_keeps m c r hl).trans (entry_keeps m c r hp)

/-- The reference's run: the result array at the fold's contents, the arguments as launched, every counter at zero. -/
theorem run_all : θ_run (defs (F := F)) (onTc (τ := τ) (main (F := F))) ⟨m, fun _ => 0, ρ⟩ (fun r => (∀ c : Dev nD,
      r.2.mem ((c.tc : Thread nD τ).loc main_v97) = after hostOps0_5 (exitC m c) (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_, ?_⟩,
    Idealize.ShloMosaic.sem_eq_zero_of_no_sems (by decide) r.2⟩) (run_fold m ρ)
  · refine (h c main_v97 rfl).trans ?_
    simp only [finalContents, afterL_cons, afterL_nil]
  all_goals exact (h c _ rfl).trans (final_arg m c _ (by decide +kernel) (by decide +kernel) (by decide +kernel))

end Cert.ReferenceIdeal.Whole

end
-- ==== Proof.PreRange.lean ====
/-
  What the precondition says of the arguments: the logits are real numbers, and the labels, the two lengths and the
  blank's index are small nonnegative integers.
-/
module

public import proofs.«01_k».proof.Pre_in_range
public import Idealize.ShloMosaic.Lib.ReduceAll
public import Idealize.ShloMosaic.Lib.Affine
public import Idealize.ShloMosaic.Lib.WordCmp
public import Idealize.ShloMosaic.Lib.ValueIdxCore
public import Idealize.ShloMosaic.PureOps.Ideal.Laws

@[expose] public section

noncomputable section

namespace Cert.Pre_in_range.Read
open Idealize.ShloMosaic
open Cert.Pre_in_range

/-- The scalar shape has one position. -/
instance : Subsingleton S_.Idx := ⟨fun a b => funext fun i => i.elim0⟩

/-- An extended real above minus infinity and below plus infinity is a real number. -/
theorem real_of_between (v : EReal)
    (h : IntOp.andi (Ideal.cmp .ogt v (Ideal.ofBits .f32 0xFF800000#32)) (Ideal.cmp .olt v (Ideal.ofBits .f32 0x7F800000#32)) = 1#1) :
    v = ((v.toReal : ℝ) : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  obtain ⟨h1, h2⟩ := IntOp.andi_eq_one.mp h
  refine (EReal.coe_toReal ?_ ?_).symm
  · rintro rfl
    simp [Ideal.cmp] at h2
  · rintro rfl
    simp [Ideal.cmp] at h1

/-- A word between `0` and `k - 1`, read signed, is the natural number it reads as, and below `k`. -/
theorem word_below (k : Nat) (hk : k < 2 ^ 31) (x : BitVec 32)
    (h1 : IntOp.cmpi .sge x 0#32 = 1#1) (h2 : x.toInt < k) : x.toNat < k := by
  have h := IntOp.cmpi_sge.mp h1
  rw [show (0#32 : BitVec 32).toInt = 0 from rfl] at h
  rw [BitVec.toInt_eq_toNat_cond] at h h2
  split at h <;> rename_i hc
  · rw [if_pos hc] at h2; omega
  · have := x.isLt; omega

/-- A word is the word of the natural number it reads as. -/
theorem word_eq (x : BitVec 32) : x = BitVec.ofNat 32 x.toNat := by simp

variable [Facts]
variable (a0 : FVec Ideal S16x192x64x512 .f32) (a1 : IVec S16x63 32) (a2 a3 : IVec S16 32) (a4 : IVec S_ 32)

/-- The precondition, element by element. -/
theorem elements (h : fn (F := Ideal) a0 a1 a2 a3 a4 = fun _ => 1#1) :
    (∀ i, a0 i = (((a0 i : EReal).toReal : ℝ) : EReal)) ∧ (∀ i, (a1 i).toNat < 512)
      ∧ (∀ i, 1 ≤ (a2 i).toNat ∧ (a2 i).toNat < 193) ∧ (∀ i, (a3 i).toNat < 64) ∧ (∀ i, (a4 i).toNat < 512) := by
  have e (i : S_.Idx) := congrFun h i
  simp only [fn, fn_part1] at e
  have e0 (i : S_.Idx) := IntOp.andi_eq_one.mp (e i)
  have e1 (i : S_.Idx) := IntOp.andi_eq_one.mp (e0 i).1
  have e2 (i : S_.Idx) := IntOp.andi_eq_one.mp (e1 i).1
  have e3 (i : S_.Idx) := IntOp.andi_eq_one.mp (e2 i).1
  have e4 (i : S_.Idx) := IntOp.andi_eq_one.mp (e3 i).1
  let o : S_.Idx := fun i => i.elim0
  have r0 := Host.reduce_andi_all _ _ _ _ o (e4 o).1
  have r1 := Host.reduce_andi_all _ _ _ _ o (e4 o).2
  have r2 := Host.reduce_andi_all _ _ _ _ o (e3 o).2
  have r3 := Host.reduce_andi_all _ _ _ _ o (e2 o).2
  refine ⟨fun i => real_of_between _ (r0 i), fun i => ?_, fun i => ?_, fun i => ?_, fun i => ?_⟩
  · obtain ⟨p, q⟩ := IntOp.andi_eq_one.mp (r1 i)
    exact word_below 512 (by norm_num) _ p (IntOp.cmpi_slt.mp q)
  · obtain ⟨p, q⟩ := IntOp.andi_eq_one.mp (r2 i)
    have p' : (1 : Int) ≤ (a2 i).toInt := IntOp.cmpi_sge.mp p
    have q' : (a2 i).toInt ≤ 192 := IntOp.cmpi_sle.mp q
    have hb := word_below 193 (by norm_num) (a2 i) (IntOp.cmpi_sge.mpr (le_trans (by decide) p')) (by push_cast; omega)
    refine ⟨?_, hb⟩
    rw [BitVec.toInt_eq_toNat_of_lt (by omega)] at p'
    omega
  · obtain ⟨p, q⟩ := IntOp.andi_eq_one.mp (r3 i)
    have q' : (a3 i).toInt ≤ 63 := IntOp.cmpi_sle.mp q
    exact word_below 64 (by norm_num) _ p (by push_cast; omega)
  · exact word_below 512 (by norm_num) _ (e1 i).2 (IntOp.cmpi_slt.mp (e0 i).2)

end Cert.Pre_in_range.Read

end
-- ==== Proof.Lattice.lean ====
/-
  The transducer lattice over the real numbers: path weights by their two-term recurrence, and the two ways of computing
  their logarithms, one frame column at a time and one label row at a time. Nothing here mentions a program.
-/
module

public import Idealize.ShloMosaic.PureOps.Ideal

@[expose] public section

noncomputable section

namespace Cert.Lattice

open Finset

/-- The weight of all paths to frame `t` and label `u`: `b t u` is the log-probability of moving one frame on, `l t u`
    that of emitting one label. -/
def wt (b l : ℕ → ℕ → ℝ) : ℕ → ℕ → ℝ
  | 0, 0 => 1
  | 0, u + 1 => wt b l 0 u * Real.exp (l 0 u)
  | t + 1, 0 => wt b l t 0 * Real.exp (b t 0)
  | t + 1, u + 1 => wt b l t (u + 1) * Real.exp (b t (u + 1)) + wt b l (t + 1) u * Real.exp (l (t + 1) u)
termination_by t u => (t, u)

/-- The logarithm of the path weight. -/
def alpha (b l : ℕ → ℕ → ℝ) (t u : ℕ) : ℝ := Real.log (wt b l t u)

/-- The prefix sum over frames of a column. -/
def pre (b : ℕ → ℕ → ℝ) (t u : ℕ) : ℝ := ∑ k ∈ range t, b k u

/-- The prefix sum over labels of a row. -/
def lead (l : ℕ → ℕ → ℝ) (t u : ℕ) : ℝ := ∑ k ∈ range u, l t k

variable (b l : ℕ → ℕ → ℝ)

/-- Every path weight is positive. -/
theorem wt_pos : ∀ t u, 0 < wt b l t u
  | 0, 0 => by rw [wt]; exact one_pos
  | 0, u + 1 => by rw [wt]; exact mul_pos (wt_pos 0 u) (Real.exp_pos _)
  | t + 1, 0 => by rw [wt]; exact mul_pos (wt_pos t 0) (Real.exp_pos _)
  | t + 1, u + 1 => by
    rw [wt]; exact add_pos (mul_pos (wt_pos t (u + 1)) (Real.exp_pos _)) (mul_pos (wt_pos (t + 1) u) (Real.exp_pos _))
termination_by t u => (t, u)

/-- The exponential of the log-weight is the weight. -/
theorem exp_alpha (t u : ℕ) : Real.exp (alpha b l t u) = wt b l t u := Real.exp_log (wt_pos b l t u)

/-- A positive sum of exponentials. -/
theorem sum_exp_pos (f : ℕ → ℝ) (n : ℕ) : 0 < ∑ k ∈ range (n + 1), Real.exp (f k) :=
  sum_pos (fun _ _ => Real.exp_pos _) ⟨0, by simp⟩

/-- On the first label row the log-weight is the prefix sum over frames. -/
theorem alpha_zero_right (t : ℕ) : alpha b l t 0 = pre b t 0 := by
  unfold alpha pre
  induction t with
  | zero => rw [wt]; simp
  | succ t ih => rw [wt, Real.log_mul (wt_pos b l t 0).ne' (Real.exp_pos _).ne', Real.log_exp, ih, sum_range_succ]

/-- On the first frame the log-weight is the prefix sum over labels. -/
theorem alpha_zero_left (u : ℕ) : alpha b l 0 u = lead l 0 u := by
  unfold alpha lead
  induction u with
  | zero => rw [wt]; simp
  | succ u ih => rw [wt, Real.log_mul (wt_pos b l 0 u).ne' (Real.exp_pos _).ne', Real.log_exp, ih, sum_range_succ]

/-- The weights of one label row from those of the row before, by a running sum over frames. -/
theorem wt_row (t u : ℕ) : wt b l t (u + 1)
    = Real.exp (pre b t (u + 1)) * ∑ k ∈ range (t + 1), Real.exp (alpha b l k u + l k u - pre b k (u + 1)) := by
  induction t with
  | zero => rw [wt]; simp [pre, Real.exp_add, exp_alpha]
  | succ t ih =>
    have hp : pre b (t + 1) (u + 1) = pre b t (u + 1) + b t (u + 1) := sum_range_succ _ _
    rw [wt, sum_range_succ, mul_add, ih, ← Real.exp_add, show pre b (t + 1) (u + 1)
      + (alpha b l (t + 1) u + l (t + 1) u - pre b (t + 1) (u + 1)) = alpha b l (t + 1) u + l (t + 1) u by ring,
      Real.exp_add (alpha b l (t + 1) u), exp_alpha, hp, Real.exp_add]
    ring

/-- The weights of one frame from those of the frame before, by a running sum over labels. -/
theorem wt_col (t u : ℕ) : wt b l (t + 1) u
    = Real.exp (lead l (t + 1) u) * ∑ k ∈ range (u + 1), Real.exp (alpha b l t k + b t k - lead l (t + 1) k) := by
  induction u with
  | zero => rw [wt]; simp [lead, Real.exp_add, exp_alpha]
  | succ u ih =>
    have hp : lead l (t + 1) (u + 1) = lead l (t + 1) u + l (t + 1) u := sum_range_succ _ _
    rw [wt, sum_range_succ, mul_add, ih, ← Real.exp_add, show lead l (t + 1) (u + 1)
      + (alpha b l t (u + 1) + b t (u + 1) - lead l (t + 1) (u + 1)) = alpha b l t (u + 1) + b t (u + 1) by ring,
      Real.exp_add (alpha b l t (u + 1)), exp_alpha, hp, Real.exp_add]
    ring

/-- One label row's log-weights from the row before. -/
theorem alpha_row (t u : ℕ) : alpha b l t (u + 1)
    = pre b t (u + 1) + Real.log (∑ k ∈ range (t + 1), Real.exp (alpha b l k u + l k u - pre b k (u + 1))) := by
  rw [alpha, wt_row, Real.log_mul (Real.exp_pos _).ne' (sum_exp_pos _ _).ne', Real.log_exp]

/-- One frame's log-weights from the frame before. -/
theorem alpha_col (t u : ℕ) : alpha b l (t + 1) u
    = lead l (t + 1) u + Real.log (∑ k ∈ range (u + 1), Real.exp (alpha b l t k + b t k - lead l (t + 1) k)) := by
  rw [alpha, wt_col, Real.log_mul (Real.exp_pos _).ne' (sum_exp_pos _ _).ne', Real.log_exp]

/-- A logarithm of a sum of exponentials taken relative to any reference value `s`. -/
theorem log_sum_shift (z : ℕ → ℝ) (s : ℝ) (t : ℕ) :
    Real.log (∑ k ∈ range (t + 1), Real.exp (z k - s)) + s = Real.log (∑ k ∈ range (t + 1), Real.exp (z k)) := by
  have h : ∑ k ∈ range (t + 1), Real.exp (z k) = Real.exp s * ∑ k ∈ range (t + 1), Real.exp (z k - s) := by
    rw [mul_sum]; exact sum_congr rfl fun k _ => by rw [← Real.exp_add]; congr 1; ring
  rw [h, Real.log_mul (Real.exp_pos _).ne' (sum_exp_pos _ _).ne', Real.log_exp, add_comm]

/-- The clipped running sum at reference value `s`. -/
def clipped (z : ℕ → ℝ) (s : ℝ) (t : ℕ) : ℝ := ∑ k ∈ range (t + 1), Real.exp (min (z k - s) 80)

/-- A clipped running sum is positive. -/
theorem clipped_pos (z : ℕ → ℝ) (s : ℝ) (t : ℕ) : 0 < clipped z s t := sum_exp_pos _ t

/-- Where no term reaches the clip, the clipped running sum gives the exact logarithm. -/
theorem clipped_exact (z : ℕ → ℝ) (s : ℝ) (t : ℕ) (h : ∀ k, k ≤ t → z k - s ≤ 80) :
    Real.log (clipped z s t) + s = Real.log (∑ k ∈ range (t + 1), Real.exp (z k)) := by
  rw [← log_sum_shift z s t, clipped]
  congr 2
  exact sum_congr rfl fun k hk => by rw [min_eq_left (h k (by simpa [Nat.lt_succ_iff] using hk))]

/-- A clipped running sum that is at most `θ ≤ 1` bounds each of its terms' exponents by 0. -/
theorem le_of_clipped_le (z : ℕ → ℝ) (s θ : ℝ) (hθ : θ ≤ 1) (t : ℕ) (h : ¬ θ < clipped z s t) (k : ℕ) (hk : k ≤ t) :
    z k - s ≤ 0 := by
  have h1 : Real.exp (min (z k - s) 80) ≤ clipped z s t :=
    single_le_sum (f := fun k => Real.exp (min (z k - s) 80)) (fun _ _ => (Real.exp_pos _).le)
      (by simpa [Nat.lt_succ_iff] using hk)
  have h2 : Real.exp (min (z k - s) 80) ≤ Real.exp 0 := by rw [Real.exp_zero]; linarith [not_lt.mp h]
  have h3 := Real.exp_le_exp.mp h2
  rcases min_le_iff.mp h3 with h4 | h4
  · exact h4
  · norm_num at h4

/-- Choosing among four reference values 46 apart, the first whose clipped running sum exceeds the threshold, gives the
    logarithm of the running sum of exponentials exactly. -/
theorem scales_exact (z : ℕ → ℝ) (m θ : ℝ) (hθ : θ ≤ 1) (t : ℕ) (hm : ∀ k, k ≤ t → z k ≤ m) :
    (if (θ < clipped z (m - 0) t ∨ θ < clipped z (m - 46) t) ∨ θ < clipped z (m - 92) t then
      (if θ < clipped z (m - 0) t ∨ θ < clipped z (m - 46) t then
        (if θ < clipped z (m - 0) t then Real.log (clipped z (m - 0) t) + (m - 0)
          else Real.log (clipped z (m - 46) t) + (m - 46))
        else Real.log (clipped z (m - 92) t) + (m - 92))
      else Real.log (clipped z (m - 138) t) + (m - 138)) = Real.log (∑ k ∈ range (t + 1), Real.exp (z k)) := by
  split_ifs with h0 h1 h2
  · exact clipped_exact _ _ _ fun k hk => by linarith [hm k hk]
  · exact clipped_exact _ _ _ fun k hk => by linarith [hm k hk]
  · exact clipped_exact _ _ _ fun k hk => by
      have := le_of_clipped_le z (m - 46) θ hθ t (fun h => h1 (Or.inr h)) k hk; linarith
  · exact clipped_exact _ _ _ fun k hk => by
      have := le_of_clipped_le z (m - 92) θ hθ t (fun h => h0 (Or.inr h)) k hk; linarith

end Cert.Lattice

end
end
-- ==== Proof.PrepValue.lean ====
/-
  What one block of the first launch computes, over the real numbers.
-/
module

public import proofs.«01_k».proof.Proof.Region0
public import proofs.«01_k».proof.Proof.Lattice
public import Idealize.ShloMosaic.Lib.Pointwise
public import Idealize.ShloMosaic.PureOps.Ideal.Laws
public import Idealize.ShloMosaic.Lib.WordCmp

@[expose] public section

set_option maxRecDepth 16384

noncomputable section

namespace Cert.KernelIdeal.Whole

open Idealize.ShloMosaic Idealize.ShloMosaic.WordCmp Cert.KernelIdeal Cert.KernelIdeal.Gen

/-- A finite sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a row's sum of exponentials. -/
def lse {n : ℕ} (r : Fin n → ℝ) : ℝ := Real.log (∑ h, Real.exp (r h))

/-- The extended-real logarithm of a sum of exponentials of reals is the real one. -/
theorem log_sum_exp {n : ℕ} [NeZero n] (r : Fin n → ℝ) : Ideal.log (∑ h, Ideal.exp (r h : EReal)) = ((lse r : ℝ) : EReal) := by
  have h : ∑ h, Ideal.exp (r h : EReal) = ((∑ h, Real.exp (r h) : ℝ) : EReal) := by rw [coe_sum]; rfl
  have hp : 0 < ∑ h, Real.exp (r h) := Finset.sum_pos (fun _ _ => Real.exp_pos _) ⟨0, Finset.mem_univ _⟩
  rw [h, Ideal.log_coe, if_neg hp.not_ge]; rfl

/-- A row times an indicator sums to the entry indicated. -/
theorem sum_indicator {n : ℕ} (r : Fin n → ℝ) (k : Fin n) :
    ∑ h, (r h : EReal) * (if h = k then 1 else 0) = (r k : EReal) := by
  simp

/-- A select on a decided bit is the `if`. -/
theorem select_dec {α : Type} (p : Prop) [Decidable p] (a b : α) :
    Scalar.select (BitVec.ofBool (decide p)) a b = if p then a else b := by
  by_cases h : p <;> simp [h, Scalar.select]

section
variable (x0 : Vec Ideal S1x16x64x512 .f32) (X : Fin 16 → Fin 64 → Fin 512 → ℝ)
  (hx : ∀ a u h, x0 (ix4 0 a u h) = (X a u h : EReal))
include hx

/-- The normaliser of a row of the block. -/
theorem pay5_val (a : Fin 16) (u : Fin 64) : k0_pay5 x0 (ix2 a u) = ((lse (X a u) : ℝ) : EReal) := by
  have h : k0_pay5 x0 (ix2 a u) = Ideal.log (∑ h, Ideal.exp (x0 (ix4 0 a u h))) := by
    pointwise [k0_pay5, k0_pay4]
  rw [h, ← log_sum_exp]; simp only [hx]

/-- The blank log-probability of a row of the block. -/
theorem pay6_val (x2 : Vec Ideal S64x512 .f32) (k : Fin 512) (h2 : ∀ u h, x2 (ix2 u h) = if h = k then 1 else 0)
    (a : Fin 16) (u : Fin 64) : k0_pay6 x0 x2 (ix2 a u) = ((X a u k - lse (X a u) : ℝ) : EReal) := by
  have h : k0_pay6 x0 x2 (ix2 a u) = (∑ h, x0 (ix4 0 a u h) * x2 (ix2 u h)) - k0_pay5 x0 (ix2 a u) := by
    pointwise [k0_pay6, k0_pay4]
  rw [h, pay5_val x0 X hx]; simp only [hx, h2, sum_indicator, EReal.coe_sub]

/-- The blank log-probability the body stores. -/
theorem pay7_val (x2 : Vec Ideal S64x512 .f32) (k : Fin 512) (h2 : ∀ u h, x2 (ix2 u h) = if h = k then 1 else 0)
    (a : Fin 16) (u : Fin 64) : k0_pay7 x0 x2 (ix3 0 a u) = ((X a u k - lse (X a u) : ℝ) : EReal) := by
  have h : k0_pay7 x0 x2 (ix3 0 a u) = k0_pay6 x0 x2 (ix2 a u) := by
    pointwise [k0_pay7]
  rw [h, pay6_val x0 X hx x2 k h2]

/-- The label log-probability the body stores. -/
theorem pay8_val (x1 : Vec Ideal S1x64x512 .f32) (k : Fin 64 → Fin 512)
    (h1 : ∀ u : Fin 64, u.val < 63 → ∀ h, x1 (ix3 0 u h) = if h = k u then 1 else 0)
    (a : Fin 16) (u : Fin 64) : k0_pay8 x0 x1 (ix3 0 a u)
      = ((if u.val < 63 then X a u (k u) - lse (X a u) else 0 : ℝ) : EReal) := by
  have h : k0_pay8 x0 x1 (ix3 0 a u) = if u.val < 63 then (∑ h, x0 (ix4 0 a u h) * x1 (ix3 0 u h)) - k0_pay5 x0 (ix2 a u)
      else 0 := by
    pointwise [k0_pay8, k0_pay4]
    rw [cmpi_slt_ofNat (by omega) (by omega), select_dec]
  rw [h]
  split_ifs with hu
  · rw [pay5_val x0 X hx]; simp only [hx, h1 u hu, sum_indicator, EReal.coe_sub]
  · rfl

end

/-- The exclusive prefix sum within a block of sixteen frames, on top of what is carried in. -/
theorem pay1_val (f : ℕ → ℕ → ℝ) (s : ℕ) (v11 : FVec Ideal S16x64 .f32) (ls : Vec Ideal S16x16 .f32) (cr : Vec Ideal S1x64 .f32)
    (hv : ∀ a u, v11 (ix2 a u) = ((f (s + a.val) u.val : ℝ) : EReal))
    (hl : ∀ a a', ls (ix2 a a') = if a'.val < a.val then 1 else 0)
    (hc : ∀ u, cr (ix2 0 u) = ((Lattice.pre f s u.val : ℝ) : EReal)) (a : Fin 16) (u : Fin 64) :
    k0_pay1 v11 ls cr (ix2 a u) = ((Lattice.pre f (s + a.val) u.val : ℝ) : EReal) := by
  have h : k0_pay1 v11 ls cr (ix2 a u) = (∑ a', ls (ix2 a a') * v11 (ix2 a' u)) + cr (ix2 0 u) := by
    pointwise [k0_pay1]
  have e : Lattice.pre f (s + a.val) u.val = (∑ a' : Fin 16, if a'.val < a.val then f (s + a'.val) u.val else 0) + Lattice.pre f s u.val := by
    unfold Lattice.pre
    rw [Finset.sum_range_add, add_comm]
    congr 1
    rw [Fin.sum_univ_eq_sum_range (fun i => if i < a.val then f (s + i) u.val else 0) 16, ← Finset.sum_filter]
    refine Finset.sum_congr ?_ fun _ _ => rfl
    ext i; simp only [Finset.mem_range, Finset.mem_filter]; have := a.isLt; omega
  rw [h, hc, e, EReal.coe_add, coe_sum]
  congr 1
  refine Finset.sum_congr rfl fun a' _ => ?_
  rw [hl, hv]; split_ifs <;> simp

/-- The running sum of the blank log-probabilities the body stores. -/
theorem pay2_val (f : ℕ → ℕ → ℝ) (s : ℕ) (v11 : FVec Ideal S16x64 .f32) (ls : Vec Ideal S16x16 .f32) (cr : Vec Ideal S1x64 .f32)
    (hv : ∀ a u, v11 (ix2 a u) = ((f (s + a.val) u.val : ℝ) : EReal))
    (hl : ∀ a a', ls (ix2 a a') = if a'.val < a.val then 1 else 0)
    (hc : ∀ u, cr (ix2 0 u) = ((Lattice.pre f s u.val : ℝ) : EReal)) (a : Fin 16) (u : Fin 64) :
    k0_pay2 v11 ls cr (ix3 0 a u) = ((Lattice.pre f (s + a.val) u.val : ℝ) : EReal) := by
  have h : k0_pay2 v11 ls cr (ix3 0 a u) = k0_pay1 v11 ls cr (ix2 a u) := by
    pointwise [k0_pay2]
  rw [h, pay1_val f s v11 ls cr hv hl hc]

/-- What is carried to the next block: the prefix sum sixteen frames on. -/
theorem pay3_val (f : ℕ → ℕ → ℝ) (s : ℕ) (v11 : FVec Ideal S16x64 .f32) (ls : Vec Ideal S16x16 .f32) (cr : Vec Ideal S1x64 .f32)
    (hv : ∀ a u, v11 (ix2 a u) = ((f (s + a.val) u.val : ℝ) : EReal))
    (hl : ∀ a a', ls (ix2 a a') = if a'.val < a.val then 1 else 0)
    (hc : ∀ u, cr (ix2 0 u) = ((Lattice.pre f s u.val : ℝ) : EReal)) (u : Fin 64) :
    k0_pay3 v11 ls cr (ix2 0 u) = ((Lattice.pre f (s + 16) u.val : ℝ) : EReal) := by
  have h : k0_pay3 v11 ls cr (ix2 0 u) = k0_pay1 v11 ls cr (ix2 15 u) + v11 (ix2 15 u) := by
    pointwise [k0_pay3]
  have e : Lattice.pre f (s + 16) u.val = Lattice.pre f (s + 15) u.val + f (s + 15) u.val := Finset.sum_range_succ _ _
  rw [h, pay1_val f s v11 ls cr hv hl hc, hv, e, EReal.coe_add]; rfl

/-- The carry starts from zero. -/
theorem pay9_val (u : Fin 64) : (k0_pay9 : FVec Ideal S1x64 .f32) (ix2 0 u) = 0 := by
  pointwise [k0_pay9]

end Cert.KernelIdeal.Whole

end
end
-- ==== Proof.PrepArrays.lean ====
/-
  The three arrays the first launch leaves, index by index over the real numbers.
-/
module

public import proofs.«01_k».proof.Proof.PrepValue
public import Idealize.ShloMosaic.Lib.Pipeline.Value

@[expose] public section

set_option maxRecDepth 16384

noncomputable section

namespace Cert.KernelIdeal.Whole

open Idealize.ShloMosaic Idealize.ShloMosaic.TcCoe Cert.KernelIdeal Cert.KernelIdeal.Gen
open Idealize.SL Idealize.SL.Sem
open Idealize.ShloMosaic.Pipeline (Dat Cfg Window)

section generic
variable {F : FTy → Type} [FloatOps F]
variable (V : (c : Dev nD) → (b : Ref sig .tc) → Buf (Elt F) ((c : Thread nD τ).loc b))

/-- The grid point that works on batch row `b` and frame `t`. -/
abbrev ptOf (b : Fin 16) (t : Fin 192) : Fin grid0.N := ⟨12 * b.val + t.val / 16, lt_of_lt_of_eq (by omega) N_0.symm⟩

/-- A grid point's batch row and its block of frames. -/
theorem pt_lt (t : Fin grid0.N) : t.val / 12 < 16 := by have := lt_of_lt_of_eq t.isLt N_0; omega

/-- The printed index maps of the input windows, decided over the grid. -/
theorem idx_in : ∀ t : Fin grid0.N, win0_0.index t = ![t.val / 12, t.val % 12, 0, 0] ∧ win0_1.index t = ![t.val / 12, 0, 0]
    ∧ win0_2.index t = ![0, 0] ∧ win0_3.index t = ![0, 0] := by decide +kernel

/-- The printed index maps of the output windows, decided over the grid; each point writes its block back. -/
theorem idx_out : ∀ t : Fin grid0.N, (win0_4.index t = ![t.val / 12, t.val % 12, 0] ∧ win0_4.flush t = true)
    ∧ (win0_5.index t = ![t.val / 12, t.val % 12, 0] ∧ win0_5.flush t = true)
    ∧ (win0_6.index t = ![t.val / 12, t.val % 12, 0] ∧ win0_6.flush t = true) := by decide +kernel

/-- Two points with the same block of an output are one point. -/
theorem pt_eq {t t' : Fin grid0.N} (h : (![t.val / 12, t.val % 12, 0] : Fin 3 → ℕ) = ![t'.val / 12, t'.val % 12, 0]) : t = t' := by
  have h0 : t.val / 12 = t'.val / 12 := congrFun h 0
  have h1 : t.val % 12 = t'.val % 12 := congrFun h 1
  exact Fin.ext (by omega)

/-- Block 0 of the first call, element by element. -/
theorem iblk0_0_apply (c : Dev nD) (t : Fin cfg0.N) (a : Fin 16) (u : Fin 64) (h : Fin 512) :
    iblk0 V c 0 t (ix4 0 a u h) = V c main_arg0 (ix4 ⟨t.val / 12, pt_lt t⟩ ⟨16 * (t.val % 12) + a.val, by omega⟩ u h) := by
  show V c main_arg0 (((cfg0.win 0).blk t).view.emb (ix4 0 a u h)) = _
  congr 1
  have e := (idx_in t).1
  have e0 : win0_0.index t (0 : Fin 4) = t.val / 12 := congrFun e 0
  have e1 : win0_0.index t (1 : Fin 4) = t.val % 12 := congrFun e 1
  have e2 : win0_0.index t (2 : Fin 4) = 0 := congrFun e 2
  have e3 : win0_0.index t (3 : Fin 4) = 0 := congrFun e 3
  funext d; apply Fin.ext
  match d with
  | ⟨0, _⟩ => show win0_0.index t (0 : Fin 4) * 1 + 1 * 0 = t.val / 12; omega
  | ⟨1, _⟩ => show win0_0.index t (1 : Fin 4) * 16 + 1 * a.val = 16 * (t.val % 12) + a.val; omega
  | ⟨2, _⟩ => show win0_0.index t (2 : Fin 4) * 64 + 1 * u.val = u.val; omega
  | ⟨3, _⟩ => show win0_0.index t (3 : Fin 4) * 512 + 1 * h.val = h.val; omega

/-- Block 1 of the first call, element by element. -/
theorem iblk0_1_apply (c : Dev nD) (t : Fin cfg0.N) (u : Fin 64) (h : Fin 512) :
    iblk0 V c 1 t (ix3 0 u h) = V c main_v7 (ix3 ⟨t.val / 12, pt_lt t⟩ u h) := by
  show V c main_v7 (((cfg0.win 1).blk t).view.emb (ix3 0 u h)) = _
  congr 1
  have e := (idx_in t).2.1
  have e0 : win0_1.index t (0 : Fin 3) = t.val / 12 := congrFun e 0
  have e1 : win0_1.index t (1 : Fin 3) = 0 := congrFun e 1
  have e2 : win0_1.index t (2 : Fin 3) = 0 := congrFun e 2
  funext d; apply Fin.ext
  match d with
  | ⟨0, _⟩ => show win0_1.index t (0 : Fin 3) * 1 + 1 * 0 = t.val / 12; omega
  | ⟨1, _⟩ => show win0_1.index t (1 : Fin 3) * 64 + 1 * u.val = u.val; omega
  | ⟨2, _⟩ => show win0_1.index t (2 : Fin 3) * 512 + 1 * h.val = h.val; omega

/-- Block 2 of the first call, element by element. -/
theorem iblk0_2_apply (c : Dev nD) (t : Fin cfg0.N) (u : Fin 64) (h : Fin 512) :
    iblk0 V c 2 t (ix2 u h) = V c main_v13 (ix2 u h) := by
  show V c main_v13 (((cfg0.win 2).blk t).view.emb (ix2 u h)) = _
  congr 1
  have e := (idx_in t).2.2.1
  have e0 : win0_2.index t (0 : Fin 2) = 0 := congrFun e 0
  have e1 : win0_2.index t (1 : Fin 2) = 0 := congrFun e 1
  funext d; apply Fin.ext
  match d with
  | ⟨0, _⟩ => show win0_2.index t (0 : Fin 2) * 64 + 1 * u.val = u.val; omega
  | ⟨1, _⟩ => show win0_2.index t (1 : Fin 2) * 512 + 1 * h.val = h.val; omega

/-- Block 3 of the first call, element by element. -/
theorem iblk0_3_apply (c : Dev nD) (t : Fin cfg0.N) (a a' : Fin 16) :
    iblk0 V c 3 t (ix2 a a') = V c main_v17 (ix2 a a') := by
  show V c main_v17 (((cfg0.win 3).blk t).view.emb (ix2 a a')) = _
  congr 1
  have e := (idx_in t).2.2.2
  have e0 : win0_3.index t (0 : Fin 2) = 0 := congrFun e 0
  have e1 : win0_3.index t (1 : Fin 2) = 0 := congrFun e 1
  funext d; apply Fin.ext
  match d with
  | ⟨0, _⟩ => show win0_3.index t (0 : Fin 2) * 16 + 1 * a.val = a.val; omega
  | ⟨1, _⟩ => show win0_3.index t (1 : Fin 2) * 16 + 1 * a'.val = a'.val; omega

/-- Output array 4 at an index is what the point of that batch row and frame leaves there. -/
theorem arr4_apply (c : Dev nD) (b : Fin 16) (t : Fin 192) (u : Fin 64) :
    (dat0 V c).arrAt 4 cfg0.N (ix3 b t u) = (dat0 V c).after 4 (ptOf b t) (ix3 0 ⟨t.val % 16, by omega⟩ u) := by
  have hd : ∀ t t' : Fin cfg0.N, (cfg0.win 4).flush t = true → (cfg0.win 4).flush t' = true → t ≠ t' →
      Disjoint ((cfg0.win 4).blk t).view.set ((cfg0.win 4).blk t').view.set :=
    fun t t' _ _ hne => (cfg0.win 4).disjoint_blk fun h => hne (pt_eq (((idx_out t).1.1).symm.trans (h.trans (idx_out t').1.1)))
  have h := congrFun ((dat0 V c).read_blk_arrAt_eq_flushed 4 hd cfg0.N (ptOf b t) (ptOf b t).isLt (idx_out _).1.2)
    (ix3 0 ⟨t.val % 16, by omega⟩ u)
  have e := (idx_out (ptOf b t)).1.1
  have e0 : win0_4.index (ptOf b t) (0 : Fin 3) = (12 * b.val + t.val / 16) / 12 := congrFun e 0
  have e1 : win0_4.index (ptOf b t) (1 : Fin 3) = (12 * b.val + t.val / 16) % 12 := congrFun e 1
  have e2 : win0_4.index (ptOf b t) (2 : Fin 3) = 0 := congrFun e 2
  have hi : ((cfg0.win 4).blk (ptOf b t)).view.emb (ix3 0 ⟨t.val % 16, by omega⟩ u) = ix3 b t u := by
    funext d; apply Fin.ext
    match d with
    | ⟨0, _⟩ => show win0_4.index (ptOf b t) (0 : Fin 3) * 1 + 1 * 0 = b.val; omega
    | ⟨1, _⟩ => show win0_4.index (ptOf b t) (1 : Fin 3) * 16 + 1 * (t.val % 16) = t.val; omega
    | ⟨2, _⟩ => show win0_4.index (ptOf b t) (2 : Fin 3) * 64 + 1 * u.val = u.val; omega
  rw [← hi]
  exact h

/-- Output array 5 at an index is what the point of that batch row and frame leaves there. -/
theorem arr5_apply (c : Dev nD) (b : Fin 16) (t : Fin 192) (u : Fin 64) :
    (dat0 V c).arrAt 5 cfg0.N (ix3 b t u) = (dat0 V c).after 5 (ptOf b t) (ix3 0 ⟨t.val % 16, by omega⟩ u) := by
  have hd : ∀ t t' : Fin cfg0.N, (cfg0.win 5).flush t = true → (cfg0.win 5).flush t' = true → t ≠ t' →
      Disjoint ((cfg0.win 5).blk t).view.set ((cfg0.win 5).blk t').view.set :=
    fun t t' _ _ hne => (cfg0.win 5).disjoint_blk fun h => hne (pt_eq (((idx_out t).2.1.1).symm.trans (h.trans (idx_out t').2.1.1)))
  have h := congrFun ((dat0 V c).read_blk_arrAt_eq_flushed 5 hd cfg0.N (ptOf b t) (ptOf b t).isLt (idx_out _).2.1.2)
    (ix3 0 ⟨t.val % 16, by omega⟩ u)
  have e := (idx_out (ptOf b t)).2.1.1
  have e0 : win0_5.index (ptOf b t) (0 : Fin 3) = (12 * b.val + t.val / 16) / 12 := congrFun e 0
  have e1 : win0_5.index (ptOf b t) (1 : Fin 3) = (12 * b.val + t.val / 16) % 12 := congrFun e 1
  have e2 : win0_5.index (ptOf b t) (2 : Fin 3) = 0 := congrFun e 2
  have hi : ((cfg0.win 5).blk (ptOf b t)).view.emb (ix3 0 ⟨t.val % 16, by omega⟩ u) = ix3 b t u := by
    funext d; apply Fin.ext
    match d with
    | ⟨0, _⟩ => show win0_5.index (ptOf b t) (0 : Fin 3) * 1 + 1 * 0 = b.val; omega
    | ⟨1, _⟩ => show win0_5.index (ptOf b t) (1 : Fin 3) * 16 + 1 * (t.val % 16) = t.val; omega
    | ⟨2, _⟩ => show win0_5.index (ptOf b t) (2 : Fin 3) * 64 + 1 * u.val = u.val; omega
  rw [← hi]
  exact h

/-- Output array 6 at an index is what the point of that batch row and frame leaves there. -/
theorem arr6_apply (c : Dev nD) (b : Fin 16) (t : Fin 192) (u : Fin 64) :
    (dat0 V c).arrAt 6 cfg0.N (ix3 b t u) = (dat0 V c).after 6 (ptOf b t) (ix3 0 ⟨t.val % 16, by omega⟩ u) := by
  have hd : ∀ t t' : Fin cfg0.N, (cfg0.win 6).flush t = true → (cfg0.win 6).flush t' = true → t ≠ t' →
      Disjoint ((cfg0.win 6).blk t).view.set ((cfg0.win 6).blk t').view.set :=
    fun t t' _ _ hne => (cfg0.win 6).disjoint_blk fun h => hne (pt_eq (((idx_out t).2.2.1).symm.trans (h.trans (idx_out t').2.2.1)))
  have h := congrFun ((dat0 V c).read_blk_arrAt_eq_flushed 6 hd cfg0.N (ptOf b t) (ptOf b t).isLt (idx_out _).2.2.2)
    (ix3 0 ⟨t.val % 16, by omega⟩ u)
  have e := (idx_out (ptOf b t)).2.2.1
  have e0 : win0_6.index (ptOf b t) (0 : Fin 3) = (12 * b.val + t.val / 16) / 12 := congrFun e 0
  have e1 : win0_6.index (ptOf b t) (1 : Fin 3) = (12 * b.val + t.val / 16) % 12 := congrFun e 1
  have e2 : win0_6.index (ptOf b t) (2 : Fin 3) = 0 := congrFun e 2
  have hi : ((cfg0.win 6).blk (ptOf b t)).view.emb (ix3 0 ⟨t.val % 16, by omega⟩ u) = ix3 b t u := by
    funext d; apply Fin.ext
    match d with
    | ⟨0, _⟩ => show win0_6.index (ptOf b t) (0 : Fin 3) * 1 + 1 * 0 = b.val; omega
    | ⟨1, _⟩ => show win0_6.index (ptOf b t) (1 : Fin 3) * 16 + 1 * (t.val % 16) = t.val; omega
    | ⟨2, _⟩ => show win0_6.index (ptOf b t) (2 : Fin 3) * 64 + 1 * u.val = u.val; omega
  rw [← hi]
  exact h

end generic

section value
variable (V : (c : Dev nD) → (b : Ref sig .tc) → Buf (Elt Ideal) ((c : Thread nD τ).loc b)) (c : Dev nD)
  (X : Fin 16 → Fin 192 → Fin 64 → Fin 512 → ℝ) (lab : Fin 16 → Fin 64 → Fin 512) (kb : Fin 512)

/-- Log-probability of moving one frame on, at naturals (zero outside the array). -/
def bN (b : Fin 16) (t u : ℕ) : ℝ :=
  if h : t < 192 ∧ u < 64 then X b ⟨t, h.1⟩ ⟨u, h.2⟩ kb - lse (X b ⟨t, h.1⟩ ⟨u, h.2⟩) else 0

/-- Log-probability of emitting the label, at naturals (zero outside the array and on the last label column). -/
def lN (b : Fin 16) (t u : ℕ) : ℝ :=
  if h : t < 192 ∧ u < 63 then X b ⟨t, h.1⟩ ⟨u, by omega⟩ (lab b ⟨u, by omega⟩) - lse (X b ⟨t, h.1⟩ ⟨u, by omega⟩) else 0

/-- The blank log-probability at a frame inside the range. -/
theorem bN_of (b : Fin 16) (t : ℕ) (ht : t < 192) (u : Fin 64) : bN X kb b t u.val = X b ⟨t, ht⟩ u kb - lse (X b ⟨t, ht⟩ u) :=
  dif_pos ⟨ht, u.isLt⟩

/-- The label log-probability at a frame inside the range. -/
theorem lN_of (b : Fin 16) (t : ℕ) (ht : t < 192) (u : Fin 64) : lN X lab b t u.val
    = if u.val < 63 then X b ⟨t, ht⟩ u (lab b u) - lse (X b ⟨t, ht⟩ u) else 0 := by
  unfold lN
  by_cases hu : u.val < 63
  · rw [dif_pos ⟨ht, hu⟩, if_pos hu]
  · rw [dif_neg (by omega), if_neg hu]

variable (hX : ∀ b t u h, V c main_arg0 (ix4 b t u h) = (X b t u h : EReal))
  (h1 : ∀ b (u : Fin 64), u.val < 63 → ∀ h, V c main_v7 (ix3 b u h) = if h = lab b u then (1 : EReal) else 0)
  (h2 : ∀ u h, V c main_v13 (ix2 u h) = if h = kb then (1 : EReal) else 0)
  (h3 : ∀ a a' : Fin 16, V c main_v17 (ix2 a a') = if a'.val < a.val then (1 : EReal) else 0)

include hX in
/-- The block of logits, as real numbers. -/
theorem blk0_val (t : Fin cfg0.N) (a : Fin 16) (u : Fin 64) (h : Fin 512) : iblk0 V c 0 t (ix4 0 a u h)
    = ((fun (a : Fin 16) u h => X ⟨t.val / 12, pt_lt t⟩ ⟨16 * (t.val % 12) + a.val, by omega⟩ u h) a u h : EReal) := by
  rw [iblk0_0_apply]; exact hX _ _ _ _

include hX h2 in
/-- The blank log-probabilities the body computes, block by block. -/
theorem pay6_blk (t : Fin cfg0.N) (a : Fin 16) (u : Fin 64) : k0_pay6 (iblk0 V c 0 t) (iblk0 V c 2 t) (ix2 a u)
    = ((bN X kb ⟨t.val / 12, pt_lt t⟩ (16 * (t.val % 12) + a.val) u.val : ℝ) : EReal) := by
  rw [pay6_val _ _ (blk0_val V c X hX t) _ kb (fun u h => (iblk0_2_apply V c t u h).trans (h2 u h)), bN_of]

include hX h2 h3 in
/-- What point `n` starts from is the prefix sum over the frames before its block. -/
theorem carryIn_val (n : ℕ) (hn : n < cfg0.N) (u : Fin 64) : carryIn V c n hn (ix2 0 u)
    = ((Lattice.pre (bN X kb ⟨n / 12, pt_lt ⟨n, hn⟩⟩) (16 * (n % 12)) u.val : ℝ) : EReal) := by
  induction n generalizing u with
  | zero => rw [carryIn_reset V c 0 hn rfl, pay9_val]; simp [Lattice.pre]
  | succ n ih =>
    by_cases h0 : (n + 1) % 12 = 0
    · rw [carryIn_reset V c _ hn h0, pay9_val, h0]; simp [Lattice.pre]
    · rw [carryIn_carry V c _ hn h0]
      have hn' : n < cfg0.N := Nat.lt_of_succ_lt hn
      have hq : (⟨(n + 1) / 12, pt_lt ⟨n + 1, hn⟩⟩ : Fin 16) = ⟨n / 12, pt_lt ⟨n, hn'⟩⟩ := Fin.ext (by show (n + 1) / 12 = n / 12; omega)
      rw [hq, show 16 * ((n + 1) % 12) = 16 * (n % 12) + 16 by omega]
      show carryAt V c n _ (ix2 0 u) = _
      rw [carryAt_eq]
      exact pay3_val (bN X kb ⟨n / 12, pt_lt ⟨n, hn'⟩⟩) (16 * (n % 12)) _ _ _ (pay6_blk V c X kb hX h2 ⟨n, hn'⟩)
        (fun a a' => (iblk0_3_apply V c ⟨n, hn'⟩ a a').trans (h3 a a')) (ih hn') u

/-- The point of a batch row and frame, and its place in the block. -/
theorem pt_row (b : Fin 16) (t : Fin 192) : (⟨(ptOf b t).val / 12, pt_lt _⟩ : Fin 16) = b :=
  Fin.ext (by show (12 * b.val + t.val / 16) / 12 = b.val; omega)
/-- The grid point and the row inside its block that hold a frame. -/
theorem pt_frame (b : Fin 16) (t : Fin 192) : 16 * ((ptOf b t).val % 12) + t.val % 16 = t.val := by
  show 16 * ((12 * b.val + t.val / 16) % 12) + t.val % 16 = t.val; omega

include hX h2 in
/-- The first output array: the log-probabilities of moving on. -/
theorem lpb_val (b : Fin 16) (t : Fin 192) (u : Fin 64) :
    (dat0 V c).arrAt 4 cfg0.N (ix3 b t u) = ((bN X kb b t.val u.val : ℝ) : EReal) := by
  rw [arr4_apply, after0_4]
  refine (pay7_val _ _ (blk0_val V c X hX _) _ kb (fun u h => (iblk0_2_apply V c _ u h).trans (h2 u h)) _ u).trans ?_
  rw [← bN_of X kb, pt_row, pt_frame]

include hX h1 in
/-- The second output array: the log-probabilities of the label, zero on the last column. -/
theorem lpl_val (b : Fin 16) (t : Fin 192) (u : Fin 64) :
    (dat0 V c).arrAt 5 cfg0.N (ix3 b t u) = ((lN X lab b t.val u.val : ℝ) : EReal) := by
  rw [arr5_apply, after0_5]
  refine (pay8_val _ _ (blk0_val V c X hX _) _ (lab ⟨(ptOf b t).val / 12, pt_lt _⟩)
    (fun u hu h => (iblk0_1_apply V c _ u h).trans (h1 _ u hu h)) _ u).trans ?_
  rw [← lN_of X lab, pt_row, pt_frame]

include hX h2 h3 in
/-- The third output array: the exclusive prefix sums over frames. -/
theorem q_val (b : Fin 16) (t : Fin 192) (u : Fin 64) :
    (dat0 V c).arrAt 6 cfg0.N (ix3 b t u) = ((Lattice.pre (bN X kb b) t.val u.val : ℝ) : EReal) := by
  rw [arr6_apply, after0_6]
  refine (pay2_val (bN X kb ⟨(ptOf b t).val / 12, pt_lt _⟩) (16 * ((ptOf b t).val % 12)) _ _ _ (pay6_blk V c X kb hX h2 _)
    (fun a a' => (iblk0_3_apply V c _ a a').trans (h3 a a')) (carryIn_val V c X kb hX h2 h3 _ _) _ u).trans ?_
  rw [pt_row, pt_frame]

end value

end Cert.KernelIdeal.Whole

end
end
-- ==== Proof.DpValue.lean ====
/-
  What one step of the second launch computes, over the real numbers.
-/
module

public import proofs.«01_k».proof.Proof.Gen.KernelIdeal.Skeleton
public import proofs.«01_k».proof.Proof.PrepValue

@[expose] public section

set_option maxRecDepth 16384

noncomputable section

namespace Cert.KernelIdeal.Whole

open Idealize.ShloMosaic Idealize.ShloMosaic.WordCmp Cert.KernelIdeal Cert.KernelIdeal.Gen

/-- The pattern of 80. -/
theorem ofBits_80 : Ideal.ofBits .f32 0x42A00000#32 = ((80 : ℝ) : EReal) := by
  simp [Ideal.ofBits, Ideal.ieee, -EReal.coe_mul]; norm_num
/-- The pattern of 46. -/
theorem ofBits_46 : Ideal.ofBits .f32 0x42380000#32 = ((46 : ℝ) : EReal) := by
  simp [Ideal.ofBits, Ideal.ieee, -EReal.coe_mul]; norm_num
/-- The pattern of 92. -/
theorem ofBits_92 : Ideal.ofBits .f32 0x42B80000#32 = ((92 : ℝ) : EReal) := by
  simp [Ideal.ofBits, Ideal.ieee, -EReal.coe_mul]; norm_num
/-- The pattern of 138. -/
theorem ofBits_138 : Ideal.ofBits .f32 0x430A0000#32 = ((138 : ℝ) : EReal) := by
  simp [Ideal.ofBits, Ideal.ieee, -EReal.coe_mul]; norm_num
/-- The threshold is a real number at most one. -/
theorem ofBits_thr : ∃ θ : ℝ, Ideal.ofBits .f32 0x1E3CE508#32 = ((θ : ℝ) : EReal) ∧ θ ≤ 1 := by
  refine ⟨12379400 / 2 ^ 90, ?_, by norm_num⟩
  simp [Ideal.ofBits, Ideal.ieee, -EReal.coe_mul]; norm_num
/-- The pattern of minus infinity. -/
theorem ofBits_ninf : Ideal.ofBits .f32 0xFF800000#32 = ⊥ := by
  simp [Ideal.ofBits, Ideal.ieee]

/-- The greatest of finitely many reals, folded from minus infinity, is a real that bounds each of them. -/
theorem fold_max_coe {n : ℕ} [NeZero n] (f : Fin n → ℝ) : ∃ m : ℝ, (∀ k, f k ≤ m)
    ∧ Finset.univ.fold max (⊥ : EReal) (fun k => (f k : EReal)) = (m : EReal) := by
  have key : ∀ s : Finset (Fin n), s.Nonempty → ∃ m : ℝ, (∀ k ∈ s, f k ≤ m)
      ∧ s.fold max (⊥ : EReal) (fun k => (f k : EReal)) = (m : EReal) := by
    intro s hs
    induction hs using Finset.Nonempty.cons_induction with
    | singleton a => exact ⟨f a, by simp, by simp⟩
    | cons a s ha _ ih =>
      obtain ⟨m, hm, he⟩ := ih
      refine ⟨max (f a) m, fun k hk => ?_, by rw [Finset.fold_cons, he]; exact (EReal.coe_strictMono.monotone.map_max).symm⟩
      rcases Finset.mem_cons.mp hk with rfl | hk
      · exact le_max_left _ _
      · exact (hm k hk).trans (le_max_right _ _)
  obtain ⟨m, hm, he⟩ := key Finset.univ ⟨0, Finset.mem_univ _⟩
  exact ⟨m, fun k => hm k (Finset.mem_univ _), he⟩

section
variable (A L Q P : Fin 16 → ℕ → ℝ) (arg8 : FVec Ideal S16x192 .f32) (v32 v36 v40 : Vec Ideal S16x1x192 .f32)
  (v1 : FVec Ideal S192x192 .f32)
  (hA : ∀ b (t : Fin 192), arg8 (ix2 b t) = ((A b t.val : ℝ) : EReal))
  (hL : ∀ b (t : Fin 192), v32 (ix3 b 0 t) = ((L b t.val : ℝ) : EReal))
  (hQ : ∀ b (t : Fin 192), v36 (ix3 b 0 t) = ((Q b t.val : ℝ) : EReal))

include hA hL hQ in
/-- The exponents the log-sum-exp is taken of, as real numbers. -/
theorem pay11_val (b : Fin 16) (t : Fin 192) : k1_pay11 arg8 v32 v36 (ix2 b t) = ((A b t.val + L b t.val - Q b t.val : ℝ) : EReal) := by
  have h : k1_pay11 arg8 v32 v36 (ix2 b t) = arg8 (ix2 b t) + v32 (ix3 b 0 t) - v36 (ix3 b 0 t) := by
    pointwise [k1_pay11, k1_pay9]
  rw [h, hA, hL, hQ, EReal.coe_sub, EReal.coe_add]

include hA hL hQ in
/-- The shift: a real number no exponent of the row exceeds. -/
theorem pay12_val (b : Fin 16) : ∃ m : ℝ, (∀ t : Fin 192, A b t.val + L b t.val - Q b t.val ≤ m)
    ∧ k1_pay12 arg8 v32 v36 (ix2 b 0) = (m : EReal) := by
  obtain ⟨m, hm, he⟩ := fold_max_coe fun t : Fin 192 => A b t.val + L b t.val - Q b t.val
  refine ⟨m, hm, he ▸ ?_⟩
  pointwise [k1_pay12]
  rw [ofBits_ninf]
  simp only [pay11_val A L Q arg8 v32 v36 hA hL hQ]

/-- A clipped running sum at a reference value, as a product with the triangular matrix of ones. -/
theorem sum_clip (z : ℕ → ℝ) (r : ℝ) (w : Fin 192 → EReal) (t : Fin 192) (hw : ∀ k : Fin 192, w k = if k.val ≤ t.val then 1 else 0) :
    ∑ k : Fin 192, Ideal.exp (min ((z k.val - r : ℝ) : EReal) ((80 : ℝ) : EReal)) * w k
      = ((Lattice.clipped z r t.val : ℝ) : EReal) := by
  have e1 : Lattice.clipped z r t.val = ∑ k : Fin 192, if k.val ≤ t.val then Real.exp (min (z k.val - r) 80) else 0 := by
    rw [Fin.sum_univ_eq_sum_range (fun i => if i ≤ t.val then Real.exp (min (z i - r) 80) else 0) 192, ← Finset.sum_filter]
    refine Finset.sum_congr ?_ fun _ _ => rfl
    ext i; simp only [Finset.mem_range, Finset.mem_filter]; have := t.isLt; omega
  rw [e1, coe_sum]
  refine Finset.sum_congr rfl fun k _ => ?_
  rw [hw, ← EReal.coe_strictMono.monotone.map_min, Ideal.exp_coe]; split_ifs <;> simp

/-- A choice between two reals, read among the extended reals. -/
theorem ite_coe (p : Prop) [Decidable p] (a b : ℝ) : (if p then (a : EReal) else (b : EReal)) = ((if p then a else b : ℝ) : EReal) := by
  split_ifs <;> rfl

/-- The logarithm of a clipped running sum, put back at its reference value. -/
theorem log_clip (z : ℕ → ℝ) (r : ℝ) (t : ℕ) : Ideal.log ((Lattice.clipped z r t : ℝ) : EReal) + (r : EReal)
    = ((Real.log (Lattice.clipped z r t) + r : ℝ) : EReal) := by
  rw [Ideal.log_coe, if_neg (Lattice.clipped_pos z r t).not_ge, EReal.coe_add]

variable (hT : ∀ k t : Fin 192, v1 (ix2 k t) = if k.val ≤ t.val then 1 else 0)

include hA hL hQ hT in
/-- One trip of the loop takes the lattice from one label position to the next. -/
theorem pay6_step (v0 : Vec Ideal S192x192 .f32) (h0 : k1_pay1 v0 = v1) (b : Fin 16) (t : Fin 192) :
    k1_pay6 v0 (k1_pay9 v36) (k1_pay11 arg8 v32 v36) (k1_pay12 arg8 v32 v36) (k1_pay15 v1 arg8 v32 v36)
      (k1_pay17 v1 arg8 v32 v36) (k1_pay18 v1 arg8 v32 v36) k1_pay19 (ix2 b t)
      = ((Q b t.val + Real.log (∑ k ∈ Finset.range (t.val + 1), Real.exp (A b k + L b k - Q b k)) : ℝ) : EReal) := by
  obtain ⟨m, hm, he⟩ := pay12_val A L Q arg8 v32 v36 hA hL hQ b
  obtain ⟨θ, hθ, hθ1⟩ := ofBits_thr
  have h11 := pay11_val A L Q arg8 v32 v36 hA hL hQ b
  have hw : ∀ k : Fin 192, k1_pay1 v0 (ix2 k t) = if k.val ≤ t.val then 1 else 0 := fun k => by rw [h0]; exact hT k t
  have h9 : k1_pay9 v36 (ix2 b t) = ((Q b t.val : ℝ) : EReal) := by
    have e : k1_pay9 v36 (ix2 b t) = v36 (ix3 b 0 t) := by pointwise [k1_pay9]
    rw [e, hQ]
  have h13 : k1_pay13 arg8 v32 v36 (ix2 b 0) = ((m - 0 : ℝ) : EReal) := by
    pointwise [k1_pay13]; rw [he]
  have h16 : k1_pay16 arg8 v32 v36 (ix2 b 0) = ((m - 46 : ℝ) : EReal) := by
    pointwise [k1_pay16]; rw [he, ofBits_46, EReal.coe_sub]
  have hs := fun r : ℝ => sum_clip (fun k => A b k + L b k - Q b k) r (fun k => k1_pay1 v0 (ix2 k t)) t hw
  have h14 : k1_pay14 v1 arg8 v32 v36 (ix2 b t) = ((Lattice.clipped (fun k => A b k + L b k - Q b k) (m - 0) t.val : ℝ) : EReal) := by
    have e : k1_pay14 v1 arg8 v32 v36 (ix2 b t) = ∑ k : Fin 192, Ideal.exp (min (k1_pay11 arg8 v32 v36 (ix2 b k)
        - k1_pay13 arg8 v32 v36 (ix2 b 0)) (Ideal.ofBits .f32 0x42A00000#32)) * v1 (ix2 k t) := by
      pointwise [k1_pay14]
    rw [e, ← hs, h0]; simp only [h11, h13, ofBits_80, ← EReal.coe_sub]
  have h17 : k1_pay17 v1 arg8 v32 v36 (ix2 b t) = ((Lattice.clipped (fun k => A b k + L b k - Q b k) (m - 46) t.val : ℝ) : EReal) := by
    have e : k1_pay17 v1 arg8 v32 v36 (ix2 b t) = ∑ k : Fin 192, Ideal.exp (min (k1_pay11 arg8 v32 v36 (ix2 b k)
        - k1_pay16 arg8 v32 v36 (ix2 b 0)) (Ideal.ofBits .f32 0x42A00000#32)) * v1 (ix2 k t) := by
      pointwise [k1_pay17]
    rw [e, ← hs, h0]; simp only [h11, h16, ofBits_80, ← EReal.coe_sub]
  have e92 : k1_pay12 arg8 v32 v36 (ix2 b 0) - Ideal.ofBits .f32 0x42B80000#32 = ((m - 92 : ℝ) : EReal) := by
    rw [he, ofBits_92, EReal.coe_sub]
  have e138 : k1_pay12 arg8 v32 v36 (ix2 b 0) - Ideal.ofBits .f32 0x430A0000#32 = ((m - 138 : ℝ) : EReal) := by
    rw [he, ofBits_138, EReal.coe_sub]
  pointwise [k1_pay6, k1_pay15, k1_pay18, k1_pay19]
  simp only [h9, h13, h14, h16, h17, h11, e92, e138, hθ, ofBits_80, ← EReal.coe_sub]
  simp only [hs, log_clip, ori_ofBool, EReal.coe_lt_coe_iff, ← Bool.decide_or, select_dec, ← EReal.coe_add]
  simp only [ite_coe]
  rw [← EReal.coe_add]
  exact congrArg (fun r : ℝ => ((Q b t.val + r : ℝ) : EReal))
    (Lattice.scales_exact (fun k => A b k + L b k - Q b k) m θ hθ1 t.val (fun k hk => hm ⟨k, by omega⟩))

end

section
variable (v3 v7 : Vec Ideal S16x1 .i32) (f y : Fin 16 → ℕ) (hf : ∀ b, v3 (ix2 b 0) = BitVec.ofNat 32 (f b + 1)) (hf' : ∀ b, f b < 192)
  (hy : ∀ b, v7 (ix2 b 0) = BitVec.ofNat 32 (y b)) (hy' : ∀ b, y b < 64)

/-- One less than the successor of a number, as words. -/
theorem word_pred (n : ℕ) : BitVec.ofNat 32 (n + 1) - 1#32 = BitVec.ofNat 32 n := by
  rw [BitVec.ofNat_add]; exact BitVec.add_sub_cancel _ _

include hf hf' hy hy' in
/-- The mask of the one state each batch row's result is taken from, at row `n` of the grid of states. -/
theorem mask_val (b : Fin 16) (t : Fin 192) (n : ℕ) (hn : n < 64) : IntOp.andi (IntOp.cmpi .eq (BitVec.ofNat 32 t.val) (IntOp.subi (v3 (ix2 b 0)) 1#32))
    (IntOp.cmpi .eq (v7 (ix2 b 0)) (BitVec.ofNat 32 n)) = BitVec.ofBool (decide (t.val = f b ∧ y b = n)) := by
  have := hf' b; have := hy' b; have := t.isLt
  rw [hf, hy, show IntOp.subi (BitVec.ofNat 32 (f b + 1)) 1#32 = BitVec.ofNat 32 (f b) from word_pred _,
    cmpi_eq_ofNat (by omega) (by omega), cmpi_eq_ofNat (by omega) (by omega), andi_ofBool, ← Bool.decide_and]

include hf hf' hy hy' in
/-- The accumulator before the loop: the node at label position zero, where it is the one asked for. -/
theorem pay5_acc (B A : Fin 16 → ℕ → ℝ) (v9 v11 : Vec Ideal S16x1x192 .f32) (hA : ∀ b (t : Fin 192), v9 (ix3 b 0 t) = ((A b t.val : ℝ) : EReal))
    (hB : ∀ b (t : Fin 192), v11 (ix3 b 0 t) = ((B b t.val : ℝ) : EReal)) (b : Fin 16) (t : Fin 192) :
    k1_pay5 v3 v7 v9 v11 (ix2 b t) = if t.val = f b ∧ y b = 0 then ((A b t.val + B b t.val : ℝ) : EReal) else 0 := by
  have e : k1_pay5 v3 v7 v9 v11 (ix2 b t) = Scalar.select (IntOp.andi (IntOp.cmpi .eq (BitVec.ofNat 32 t.val) (IntOp.subi (v3 (ix2 b 0)) 1#32))
    (IntOp.cmpi .eq (v7 (ix2 b 0)) 0#32)) (v9 (ix3 b 0 t) + v11 (ix3 b 0 t)) 0 := by
    pointwise [k1_pay5, k1_pay4, k1_pay2, k1_pay3]
  rw [e, mask_val v3 v7 f y hf hf' hy hy' b t 0 (by omega), select_dec, hA, hB, EReal.coe_add]

include hf hf' hy hy' in
/-- One trip of the loop adds the node at its label position, where it is the one asked for. -/
theorem pay7_acc (v0 arg9 n v38 v42 v44 v46 v59 v67 v71 v72) (hn : n + 1 < 64) (b : Fin 16) (t : Fin 192) :
    k1_pay7 v0 v3 v7 arg9 (BitVec.ofNat 32 (n + 1)) v38 v42 v44 v46 v59 v67 v71 v72 (ix2 b t)
      = arg9 (ix2 b t) + if t.val = f b ∧ y b = n + 1 then k1_pay6 v0 v38 v44 v46 v59 v67 v71 v72 (ix2 b t) + v42 (ix2 b t) else (0 : EReal) := by
  have e : k1_pay7 v0 v3 v7 arg9 (BitVec.ofNat 32 (n + 1)) v38 v42 v44 v46 v59 v67 v71 v72 (ix2 b t)
      = arg9 (ix2 b t) + Scalar.select (IntOp.andi (IntOp.cmpi .eq (BitVec.ofNat 32 t.val) (IntOp.subi (v3 (ix2 b 0)) 1#32))
    (IntOp.cmpi .eq (v7 (ix2 b 0)) (BitVec.ofNat 32 (n + 1)))) (k1_pay6 v0 v38 v44 v46 v59 v67 v71 v72 (ix2 b t) + v42 (ix2 b t)) 0 := by
    pointwise [k1_pay7, k1_pay2, k1_pay3]
  rw [e, mask_val v3 v7 f y hf hf' hy hy' b t (n + 1) hn, select_dec]

include hf' in
/-- The accumulated grid's one entry per batch row, summed over the frames and negated. -/
theorem pay8_acc (v : FVec Ideal S16x192 .f32) (r : Fin 16 → ℕ → ℝ) (b : Fin 16)
    (hv : ∀ t : Fin 192, v (ix2 b t) = if t.val = f b then ((r b t.val : ℝ) : EReal) else 0) :
    k1_pay8 v (ix2 b 0) = ((-(r b (f b)) : ℝ) : EReal) := by
  have e : k1_pay8 v (ix2 b 0) = 0 - ∑ t : Fin 192, v (ix2 b t) := by
    pointwise [k1_pay8]
  have es : ∑ t : Fin 192, v (ix2 b t) = ((r b (f b) : ℝ) : EReal) := by
    rw [Finset.sum_eq_single (⟨f b, hf' b⟩ : Fin 192)]
    · rw [hv]; exact if_pos rfl
    · intro t _ h; rw [hv]; exact if_neg fun e => h (Fin.ext e)
    · intro h; exact absurd (Finset.mem_univ _) h
  rw [e, es, ← EReal.coe_zero, ← EReal.coe_sub, zero_sub]

end

end Cert.KernelIdeal.Whole

end
end
-- ==== Proof.DpArrays.lean ====
/-
  The array the second launch leaves: for each batch row, minus the log-weight of its final state and of the blank there.
-/
module

public import proofs.«01_k».proof.Proof.DpValue
public import proofs.«01_k».proof.Proof.Region1
public import Idealize.ShloMosaic.Lib.Pipeline.Value

@[expose] public section

set_option maxRecDepth 16384

noncomputable section

namespace Cert.KernelIdeal.Whole

open Idealize.ShloMosaic Idealize.ShloMosaic.TcCoe Cert.KernelIdeal Cert.KernelIdeal.Gen
open Idealize.SL Idealize.SL.Sem
open Idealize.ShloMosaic.Pipeline (Dat Cfg Window)

section generic
variable {F : FTy → Type} [FloatOps F]

/-- The row of states a trip loads from an array of log-probabilities, by its number. -/
theorem off1_eq : ∀ k : Fin k1_t1_loop.trips, k1_off1 k = ![0, k.val, 0] := by decide +kernel
/-- The row of states after it. -/
theorem off2_eq : ∀ k : Fin k1_t1_loop.trips, k1_off2 k = ![0, k.val + 1, 0] := by decide +kernel
/-- The loop's counter, counted from one. -/
theorem iv_eq : ∀ k : Fin k1_t1_loop.trips, Scf.iv 1#32 1#32 k.val = BitVec.ofNat 32 (k.val + 1) := by decide +kernel
/-- The loop over the label positions takes 63 trips. -/
theorem trips_eq : k1_t1_loop.trips = 63 := by decide +kernel

/-- A load of one row of states out of a whole array. -/
theorem row_read (a : Memref sig .tc .vmem S16x64x192 .f32) (ha : a.IsWhole) (x : Vec F S16x64x192 .f32) (off : Fin 3 → ℕ) (inb)
    (n : Fin 64) (h : off = ![0, n.val, 0]) (b : Fin 16) (t : Fin 192) :
    View.readAt (Elt F) a.view (Rect.unit (s := S16x64x192) off S16x1x192.size inb).toLoadRect (ha.unread x) (ix3 b 0 t) = x (ix3 b n t) := by
  subst h
  refine (congrFun (ha.read_unread x) _).trans (congrArg x ?_)
  funext d; apply Fin.ext
  match d with
  | ⟨0, _⟩ => show 0 + 1 * b.val = b.val; omega
  | ⟨1, _⟩ => show n.val + 1 * 0 = n.val; omega
  | ⟨2, _⟩ => show 0 + 1 * t.val = t.val; omega

/-- A read of the triangle of ones. -/
theorem tri_read (a : Memref sig .tc .vmem S192x192 .f32) (ha : a.IsWhole) (x : Vec F S192x192 .f32) (inb) :
    View.readAt (Elt F) a.view (Rect.unit (s := S192x192) ![0, 0] S192x192.size inb).toLoadRect (ha.unread x) = x :=
  (View.ld_unit_lit _ _ zeros2).trans (ha.read_unread x)
/-- A read of a column of lengths. -/
theorem col_read (a : Memref sig .tc .vmem S16x1 .i32) (ha : a.IsWhole) (x : Vec F S16x1 .i32) (inb) :
    View.readAt (Elt F) a.view (Rect.unit (s := S16x1) ![0, 0] S16x1.size inb).toLoadRect (ha.unread x) = x :=
  (View.ld_unit_lit _ _ zeros2).trans (ha.read_unread x)

/-- One trip of the loop: the next row of states from the rows it loads, and the accumulated result. -/
def dpTrip (v0 : Vec F S192x192 .f32) (v3 v7 : Vec F S16x1 .i32) (rl rq rb : Vec F S16x1x192 .f32) (n : BitVec 32)
    (acc : FVec F S16x192 .f32 × FVec F S16x192 .f32) : FVec F S16x192 .f32 × FVec F S16x192 .f32 :=
  (k1_pay6 v0 (k1_pay9 rq) (k1_pay11 acc.1 rl rq) (k1_pay12 acc.1 rl rq) (k1_pay15 (k1_pay1 v0) acc.1 rl rq)
      (k1_pay17 (k1_pay1 v0) acc.1 rl rq) (k1_pay18 (k1_pay1 v0) acc.1 rl rq) k1_pay19,
    k1_pay7 v0 v3 v7 acc.2 n (k1_pay9 rq) (k1_pay10 rb) (k1_pay11 acc.1 rl rq) (k1_pay12 acc.1 rl rq) (k1_pay15 (k1_pay1 v0) acc.1 rl rq)
      (k1_pay17 (k1_pay1 v0) acc.1 rl rq) (k1_pay18 (k1_pay1 v0) acc.1 rl rq) k1_pay19)

/-- What the run of a trip found is that trip. -/
theorem trip_eq (𝒱 : Variants) (c : Dev nD) (bd : Option 𝒱.V) (arg0 : Memref sig .tc .vmem S16x64x192 .f32) (harg0 : arg0.IsWhole) (arg1 : Memref sig .tc .vmem S16x64x192 .f32) (harg1 : arg1.IsWhole) (arg2 : Memref sig .tc .vmem S16x64x192 .f32) (harg2 : arg2.IsWhole) (arg3 : Memref sig .tc .vmem S192x192 .f32) (harg3 : arg3.IsWhole) (arg4 : Memref sig .tc .vmem S16x1 .i32) (harg4 : arg4.IsWhole) (arg5 : Memref sig .tc .vmem S16x1 .i32) (harg5 : arg5.IsWhole) (arg6 : Memref sig .tc .vmem S16x1 .f32) (harg6 : arg6.IsWhole) (v0 : Vec F S192x192 .f32) (v3 v7 : Vec F S16x1 .i32) (X0 : BufTy.Contents (Elt F) arg0.view.ty) (X1 : BufTy.Contents (Elt F) arg1.view.ty) (X2 : BufTy.Contents (Elt F) arg2.view.ty)
    (k : Fin k1_t1_loop.trips) (acc : FVec F S16x192 .f32 × FVec F S16x192 .f32) :
    tripR_k1_t1 𝒱 c bd arg0 harg0 arg1 harg1 arg2 harg2 arg3 harg3 arg4 harg4 arg5 harg5 arg6 harg6 v0 v3 v7 X0 X1 X2 k acc
      = dpTrip v0 v3 v7
        (View.readAt (Elt F) arg1.view (Rect.unit (s := S16x64x192) (k1_off1 k) S16x1x192.size (k1_off1_inb k)).toLoadRect X1)
        (View.readAt (Elt F) arg2.view (Rect.unit (s := S16x64x192) (k1_off2 k) S16x1x192.size (k1_off2_inb k)).toLoadRect X2)
        (View.readAt (Elt F) arg0.view (Rect.unit (s := S16x64x192) (k1_off2 k) S16x1x192.size (k1_off2_inb k)).toLoadRect X0)
        (Scf.iv 1#32 1#32 k.val) acc := by
  unfold tripR_k1_t1 trip_k1_t1
  rfl

variable (V : (c : Dev nD) → (b : Ref sig .tc) → Buf (Elt F) ((c : Thread nD τ).loc b))

/-- The only point of the launch's grid. -/
abbrev pt1 : Fin cfg1.N := ⟨0, by decide +kernel⟩

/-- Block 0 of the second call, element by element: its whole array. -/
theorem iblk1_0_apply (c : Dev nD) (a : Fin 16) (u : Fin 64) (x : Fin 192) : iblk1 V c 0 pt1 (ix3 a u x) = V c main_v19 (ix3 a u x) := by
  show V c main_v19 (((cfg1.win 0).blk pt1).view.emb (ix3 a u x)) = _
  congr 1
  funext d; apply Fin.ext
  match d with
  | ⟨0, _⟩ => show 0 * 16 + 1 * a.val = a.val; omega
  | ⟨1, _⟩ => show 0 * 64 + 1 * u.val = u.val; omega
  | ⟨2, _⟩ => show 0 * 192 + 1 * x.val = x.val; omega

/-- Block 1 of the second call, element by element: its whole array. -/
theorem iblk1_1_apply (c : Dev nD) (a : Fin 16) (u : Fin 64) (x : Fin 192) : iblk1 V c 1 pt1 (ix3 a u x) = V c main_v20 (ix3 a u x) := by
  show V c main_v20 (((cfg1.win 1).blk pt1).view.emb (ix3 a u x)) = _
  congr 1
  funext d; apply Fin.ext
  match d with
  | ⟨0, _⟩ => show 0 * 16 + 1 * a.val = a.val; omega
  | ⟨1, _⟩ => show 0 * 64 + 1 * u.val = u.val; omega
  | ⟨2, _⟩ => show 0 * 192 + 1 * x.val = x.val; omega

/-- Block 2 of the second call, element by element: its whole array. -/
theorem iblk1_2_apply (c : Dev nD) (a : Fin 16) (u : Fin 64) (x : Fin 192) : iblk1 V c 2 pt1 (ix3 a u x) = V c main_v21 (ix3 a u x) := by
  show V c main_v21 (((cfg1.win 2).blk pt1).view.emb (ix3 a u x)) = _
  congr 1
  funext d; apply Fin.ext
  match d with
  | ⟨0, _⟩ => show 0 * 16 + 1 * a.val = a.val; omega
  | ⟨1, _⟩ => show 0 * 64 + 1 * u.val = u.val; omega
  | ⟨2, _⟩ => show 0 * 192 + 1 * x.val = x.val; omega

/-- Block 3 of the second call, element by element: its whole array. -/
theorem iblk1_3_apply (c : Dev nD) (a : Fin 192) (u : Fin 192) : iblk1 V c 3 pt1 (ix2 a u) = V c main_v25 (ix2 a u) := by
  show V c main_v25 (((cfg1.win 3).blk pt1).view.emb (ix2 a u)) = _
  congr 1
  funext d; apply Fin.ext
  match d with
  | ⟨0, _⟩ => show 0 * 192 + 1 * a.val = a.val; omega
  | ⟨1, _⟩ => show 0 * 192 + 1 * u.val = u.val; omega

/-- Block 4 of the second call, element by element: its whole array. -/
theorem iblk1_4_apply (c : Dev nD) (a : Fin 16) (u : Fin 1) : iblk1 V c 4 pt1 (ix2 a u) = V c main_v26 (ix2 a u) := by
  show V c main_v26 (((cfg1.win 4).blk pt1).view.emb (ix2 a u)) = _
  congr 1
  funext d; apply Fin.ext
  match d with
  | ⟨0, _⟩ => show 0 * 16 + 1 * a.val = a.val; omega
  | ⟨1, _⟩ => show 0 * 1 + 1 * u.val = u.val; omega

/-- Block 5 of the second call, element by element: its whole array. -/
theorem iblk1_5_apply (c : Dev nD) (a : Fin 16) (u : Fin 1) : iblk1 V c 5 pt1 (ix2 a u) = V c main_v27 (ix2 a u) := by
  show V c main_v27 (((cfg1.win 5).blk pt1).view.emb (ix2 a u)) = _
  congr 1
  funext d; apply Fin.ext
  match d with
  | ⟨0, _⟩ => show 0 * 16 + 1 * a.val = a.val; omega
  | ⟨1, _⟩ => show 0 * 1 + 1 * u.val = u.val; omega

/-- The output array at an index is what the launch's one point leaves there. -/
theorem arr1_apply (c : Dev nD) (b : Fin 16) : (dat1 V c).arrAt 6 cfg1.N (ix2 b 0) = outsAt1 V c pt1 (ix2 b 0) := by
  have hN : ∀ t : Fin cfg1.N, t = pt1 := by decide +kernel
  have hd : ∀ t t' : Fin cfg1.N, (cfg1.win 6).flush t = true → (cfg1.win 6).flush t' = true → t ≠ t' →
      Disjoint ((cfg1.win 6).blk t).view.set ((cfg1.win 6).blk t').view.set :=
    fun t t' _ _ hne => absurd ((hN t).trans (hN t').symm) hne
  have h := congrFun ((dat1 V c).read_blk_arrAt_eq_flushed 6 hd cfg1.N pt1 pt1.isLt (by decide +kernel)) (ix2 b 0)
  have hi : ((cfg1.win 6).blk pt1).view.emb (ix2 b 0) = ix2 b 0 := by
    funext d; apply Fin.ext
    match d with
    | ⟨0, _⟩ => show 0 * 16 + 1 * b.val = b.val; omega
    | ⟨1, _⟩ => show 0 * 1 + 1 * 0 = 0; omega
  have h' : (dat1 V c).arrAt 6 cfg1.N (((cfg1.win 6).blk pt1).view.emb (ix2 b 0)) = (dat1 V c).after 6 pt1 (ix2 b 0) := h
  rw [hi, after1_6] at h'
  exact h'

end generic

section value

/-- One trip, at a row of states given by reals. -/
theorem dpTrip_fst (A L Q : Fin 16 → ℕ → ℝ) (v0 : Vec Ideal S192x192 .f32) (v3 v7) (rl rq rb : Vec Ideal S16x1x192 .f32) (n) (acc)
    (hA : ∀ b (t : Fin 192), acc.1 (ix2 b t) = ((A b t.val : ℝ) : EReal))
    (hL : ∀ b (t : Fin 192), rl (ix3 b 0 t) = ((L b t.val : ℝ) : EReal))
    (hQ : ∀ b (t : Fin 192), rq (ix3 b 0 t) = ((Q b t.val : ℝ) : EReal))
    (hT : ∀ k t : Fin 192, k1_pay1 v0 (ix2 k t) = if k.val ≤ t.val then (1 : EReal) else 0) (b : Fin 16) (t : Fin 192) :
    (dpTrip v0 v3 v7 rl rq rb n acc).1 (ix2 b t)
      = ((Q b t.val + Real.log (∑ k ∈ Finset.range (t.val + 1), Real.exp (A b k + L b k - Q b k)) : ℝ) : EReal) :=
  pay6_step A L Q acc.1 rl rq (k1_pay1 v0) hA hL hQ hT v0 rfl b t

/-- What one trip adds to the accumulated result: the state and the blank there, where a batch row ends. -/
theorem dpTrip_snd (v0 : Vec Ideal S192x192 .f32) (v3 v7 : Vec Ideal S16x1 .i32) (f y : Fin 16 → ℕ) (hf : ∀ b, v3 (ix2 b 0) = BitVec.ofNat 32 (f b + 1))
    (hf' : ∀ b, f b < 192) (hy : ∀ b, v7 (ix2 b 0) = BitVec.ofNat 32 (y b)) (hy' : ∀ b, y b < 64) (rl rq rb : Vec Ideal S16x1x192 .f32)
    (n : ℕ) (hn : n + 1 < 64) (acc) (b : Fin 16) (t : Fin 192) :
    (dpTrip v0 v3 v7 rl rq rb (BitVec.ofNat 32 (n + 1)) acc).2 (ix2 b t) = acc.2 (ix2 b t) + if t.val = f b ∧ y b = n + 1 then
      (dpTrip v0 v3 v7 rl rq rb (BitVec.ofNat 32 (n + 1)) acc).1 (ix2 b t) + rb (ix3 b 0 t) else (0 : EReal) := by
  have e10 : k1_pay10 rb (ix2 b t) = rb (ix3 b 0 t) := by pointwise [k1_pay10]
  rw [← e10]
  exact pay7_acc v3 v7 f y hf hf' hy hy' _ _ n _ _ _ _ _ _ _ _ hn b t

variable (B L : Fin 16 → ℕ → ℕ → ℝ) (f y : Fin 16 → ℕ) (x0 x1 x2 : Vec Ideal S16x64x192 .f32) (x3 : Vec Ideal S192x192 .f32) (x4 x5 : Vec Ideal S16x1 .i32)
  (h0 : ∀ b (u : Fin 64) (t : Fin 192), x0 (ix3 b u t) = ((B b t.val u.val : ℝ) : EReal))
  (h1 : ∀ b (u : Fin 64) (t : Fin 192), x1 (ix3 b u t) = ((L b t.val u.val : ℝ) : EReal))
  (h2 : ∀ b (u : Fin 64) (t : Fin 192), x2 (ix3 b u t) = ((Lattice.pre (B b) t.val u.val : ℝ) : EReal))
  (h3 : ∀ k t : Fin 192, x3 (ix2 k t) = if k.val ≤ t.val then (1 : EReal) else 0)
  (h4 : ∀ b, x4 (ix2 b 0) = BitVec.ofNat 32 (f b + 1)) (hf : ∀ b, f b < 192)
  (h5 : ∀ b, x5 (ix2 b 0) = BitVec.ofNat 32 (y b)) (hy : ∀ b, y b < 64)

include h0 h1 h2 h3 h4 hf h5 hy in
/-- The loop's state before trip `n`: row `n` of the log-weights, and the results of the batch rows that end by row `n`. -/
theorem loop_val (𝒱 : Variants) (c : Dev nD) (bd : Option 𝒱.V) (arg0 : Memref sig .tc .vmem S16x64x192 .f32) (harg0 : arg0.IsWhole) (arg1 : Memref sig .tc .vmem S16x64x192 .f32) (harg1 : arg1.IsWhole) (arg2 : Memref sig .tc .vmem S16x64x192 .f32) (harg2 : arg2.IsWhole) (arg3 : Memref sig .tc .vmem S192x192 .f32) (harg3 : arg3.IsWhole) (arg4 : Memref sig .tc .vmem S16x1 .i32) (harg4 : arg4.IsWhole) (arg5 : Memref sig .tc .vmem S16x1 .i32) (harg5 : arg5.IsWhole) (arg6 : Memref sig .tc .vmem S16x1 .f32) (harg6 : arg6.IsWhole) (init : FVec Ideal S16x192 .f32 × FVec Ideal S16x192 .f32)
    (hi1 : ∀ b (t : Fin 192), init.1 (ix2 b t) = ((Lattice.alpha (B b) (L b) t.val 0 : ℝ) : EReal))
    (hi2 : ∀ b (t : Fin 192), init.2 (ix2 b t) = if t.val = f b ∧ y b = 0 then ((Lattice.alpha (B b) (L b) t.val (y b) + B b t.val (y b) : ℝ) : EReal) else 0)
    (n : ℕ) (hn : n ≤ 63) : ∀ b (t : Fin 192),
      (st_k1_t1 𝒱 c bd arg0 harg0 arg1 harg1 arg2 harg2 arg3 harg3 arg4 harg4 arg5 harg5 arg6 harg6 x3 x4 x5 (harg0.unread x0) (harg1.unread x1) (harg2.unread x2) init n).1 (ix2 b t)
        = ((Lattice.alpha (B b) (L b) t.val n : ℝ) : EReal)
      ∧ (st_k1_t1 𝒱 c bd arg0 harg0 arg1 harg1 arg2 harg2 arg3 harg3 arg4 harg4 arg5 harg5 arg6 harg6 x3 x4 x5 (harg0.unread x0) (harg1.unread x1) (harg2.unread x2) init n).2 (ix2 b t)
        = if t.val = f b ∧ y b ≤ n then ((Lattice.alpha (B b) (L b) t.val (y b) + B b t.val (y b) : ℝ) : EReal) else 0 := by
  induction n with
  | zero => intro b t; exact ⟨hi1 b t, by simp only [Nat.le_zero]; exact hi2 b t⟩
  | succ n ih =>
    have ih' := ih (by omega)
    have hk : n < k1_t1_loop.trips := by rw [trips_eq]; omega
    intro b t
    rw [show n + 1 = (⟨n, hk⟩ : Fin k1_t1_loop.trips).val + 1 from rfl, st_k1_t1_succ, trip_eq, iv_eq]
    have hA := fun b t => (ih' b t).1
    have hL : ∀ b (t : Fin 192), View.readAt (Elt Ideal) arg1.view (Rect.unit (s := S16x64x192) (k1_off1 ⟨n, hk⟩) S16x1x192.size (k1_off1_inb ⟨n, hk⟩)).toLoadRect (harg1.unread x1) (ix3 b 0 t)
        = ((L b t.val n : ℝ) : EReal) := fun b t => (row_read arg1 harg1 x1 _ _ ⟨n, by omega⟩ (off1_eq _) b t).trans (h1 _ _ _)
    have hQ : ∀ b (t : Fin 192), View.readAt (Elt Ideal) arg2.view (Rect.unit (s := S16x64x192) (k1_off2 ⟨n, hk⟩) S16x1x192.size (k1_off2_inb ⟨n, hk⟩)).toLoadRect (harg2.unread x2) (ix3 b 0 t)
        = ((Lattice.pre (B b) t.val (n + 1) : ℝ) : EReal) := fun b t => (row_read arg2 harg2 x2 _ _ ⟨n + 1, by omega⟩ (off2_eq _) b t).trans (h2 _ _ _)
    have hB : ∀ b (t : Fin 192), View.readAt (Elt Ideal) arg0.view (Rect.unit (s := S16x64x192) (k1_off2 ⟨n, hk⟩) S16x1x192.size (k1_off2_inb ⟨n, hk⟩)).toLoadRect (harg0.unread x0) (ix3 b 0 t)
        = ((B b t.val (n + 1) : ℝ) : EReal) := fun b t => (row_read arg0 harg0 x0 _ _ ⟨n + 1, by omega⟩ (off2_eq _) b t).trans (h0 _ _ _)
    have hT : ∀ k t : Fin 192, k1_pay1 x3 (ix2 k t) = if k.val ≤ t.val then (1 : EReal) else 0 := fun k t => by
      have e : k1_pay1 x3 (ix2 k t) = x3 (ix2 k t) := by pointwise [k1_pay1]
      rw [e, h3]
    have h6 := dpTrip_fst (fun b t => Lattice.alpha (B b) (L b) t n) (fun b t => L b t n) (fun b t => Lattice.pre (B b) t (n + 1)) x3 x4 x5 _ _
      (View.readAt (Elt Ideal) arg0.view (Rect.unit (s := S16x64x192) (k1_off2 ⟨n, hk⟩) S16x1x192.size (k1_off2_inb ⟨n, hk⟩)).toLoadRect (harg0.unread x0))
      (BitVec.ofNat 32 (n + 1)) _ hA hL hQ hT b t
    rw [← Lattice.alpha_row] at h6
    refine ⟨h6, (dpTrip_snd x3 x4 x5 f y h4 hf h5 hy _ _ _ n (by omega) _ b t).trans ?_⟩
    rw [h6, (ih' b t).2, hB, ← EReal.coe_add]
    by_cases ht : t.val = f b
    · by_cases hlt : y b ≤ n
      · rw [if_pos ⟨ht, hlt⟩, if_neg (by omega), if_pos ⟨ht, by show y b ≤ n + 1; omega⟩, add_zero]
      · by_cases he : y b = n + 1
        · rw [if_neg (by omega), if_pos ⟨ht, he⟩, if_pos ⟨ht, by show y b ≤ n + 1; omega⟩, zero_add, he]
        · rw [if_neg (by omega), if_neg (by omega), if_neg (by show ¬(_ ∧ y b ≤ n + 1); omega), zero_add]
    · rw [if_neg (by omega), if_neg (by omega), if_neg (by omega), zero_add]

include h0 h1 h2 h3 h4 hf h5 hy in
/-- What the launch's body leaves in its output buffer. -/
theorem out1_val (c : Dev nD) (arg0 : Memref sig .tc .vmem S16x64x192 .f32) (harg0 : arg0.IsWhole) (arg1 : Memref sig .tc .vmem S16x64x192 .f32) (harg1 : arg1.IsWhole) (arg2 : Memref sig .tc .vmem S16x64x192 .f32) (harg2 : arg2.IsWhole) (arg3 : Memref sig .tc .vmem S192x192 .f32) (harg3 : arg3.IsWhole) (arg4 : Memref sig .tc .vmem S16x1 .i32) (harg4 : arg4.IsWhole) (arg5 : Memref sig .tc .vmem S16x1 .i32) (harg5 : arg5.IsWhole) (arg6 : Memref sig .tc .vmem S16x1 .f32) (harg6 : arg6.IsWhole) (b : Fin 16) : out1_A_6 c arg0 harg0 arg1 harg1 arg2 harg2 arg3 harg3 arg4 harg4 arg5 harg5 arg6 harg6 x0 x1 x2 x3 x4 x5 (ix2 b 0)
    = ((-(Lattice.alpha (B b) (L b) (f b) (y b) + B b (f b) (y b)) : ℝ) : EReal) := by
  unfold out1_A_6
  rw [View.read_writes_eq_canon _ _ _ (cover1_A_6 c arg0 harg0 arg1 harg1 arg2 harg2 arg3 harg3 arg4 harg4 arg5 harg5 arg6 harg6 x0 x1 x2 x3 x4 x5)]
  unfold kernelRun1_A
  dsimp only
  refine (congrFun (View.canon_cons_unit_lit _ _ _ zeros2) _).trans ?_
  rw [show (View.readAt (Elt Ideal) arg3.view (Rect.unit ![0, 0] ![192, 192] inb_S192x192_S192x192_0_0).toLoadRect (harg3.unread x3)) = x3 from tri_read arg3 harg3 x3 _,
    show (View.readAt (Elt Ideal) arg4.view (Rect.unit ![0, 0] ![16, 1] inb_S16x1_S16x1_0_0).toLoadRect (harg4.unread x4)) = x4 from col_read arg4 harg4 x4 _,
    show (View.readAt (Elt Ideal) arg5.view (Rect.unit ![0, 0] ![16, 1] inb_S16x1_S16x1_0_0).toLoadRect (harg5.unread x5)) = x5 from col_read arg5 harg5 x5 _]
  have hQ : ∀ b (t : Fin 192), View.readAt (Elt Ideal) arg2.view (Rect.unit (s := S16x64x192) ![0, 0, 0] S16x1x192.size inb_S16x64x192_S16x1x192_0_0_0).toLoadRect (harg2.unread x2) (ix3 b 0 t)
      = ((Lattice.pre (B b) t.val 0 : ℝ) : EReal) := fun b t => (row_read arg2 harg2 x2 _ _ 0 rfl b t).trans (h2 _ _ _)
  have hB : ∀ b (t : Fin 192), View.readAt (Elt Ideal) arg0.view (Rect.unit (s := S16x64x192) ![0, 0, 0] S16x1x192.size inb_S16x64x192_S16x1x192_0_0_0).toLoadRect (harg0.unread x0) (ix3 b 0 t)
      = ((B b t.val 0 : ℝ) : EReal) := fun b t => (row_read arg0 harg0 x0 _ _ 0 rfl b t).trans (h0 _ _ _)
  refine pay8_acc f hf _ (fun b t => Lattice.alpha (B b) (L b) t (y b) + B b t (y b)) b fun t => ?_
  refine ((loop_val B L f y x0 x1 x2 x3 x4 x5 h0 h1 h2 h3 h4 hf h5 hy Variants.none c none arg0 harg0 arg1 harg1 arg2 harg2 arg3 harg3 arg4 harg4 arg5 harg5 arg6 harg6 _ (fun b t => ?_) (fun b t => ?_) 63 le_rfl b t).2).trans ?_
  · have e4 : ∀ v : Vec Ideal S16x1x192 .f32, k1_pay4 v (ix2 b t) = v (ix3 b 0 t) := fun v => by pointwise [k1_pay4]
    rw [Lattice.alpha_zero_right]; exact (e4 _).trans (hQ b t)
  · refine (pay5_acc x4 x5 f y h4 hf h5 hy (fun b t => B b t 0) (fun b t => Lattice.pre (B b) t 0) _ _ hQ hB b t).trans ?_
    by_cases h : t.val = f b ∧ y b = 0
    · rw [if_pos h, if_pos h, h.2, Lattice.alpha_zero_right]
    · rw [if_neg h, if_neg h]
  · have := hy b
    by_cases h : t.val = f b
    · rw [if_pos ⟨h, by omega⟩, if_pos h]
    · rw [if_neg (by omega), if_neg h]

variable (V : (c : Dev nD) → (b : Ref sig .tc) → Buf (Elt Ideal) ((c : Thread nD τ).loc b)) (c : Dev nD)

/-- The second launch's array: for each batch row, minus the log-weight of its final state and of the blank there. -/
theorem dp_val (h0 : ∀ b (u : Fin 64) (t : Fin 192), V c main_v19 (ix3 b u t) = ((B b t.val u.val : ℝ) : EReal))
    (h1 : ∀ b (u : Fin 64) (t : Fin 192), V c main_v20 (ix3 b u t) = ((L b t.val u.val : ℝ) : EReal))
    (h2 : ∀ b (u : Fin 64) (t : Fin 192), V c main_v21 (ix3 b u t) = ((Lattice.pre (B b) t.val u.val : ℝ) : EReal))
    (h3 : ∀ k t : Fin 192, V c main_v25 (ix2 k t) = if k.val ≤ t.val then (1 : EReal) else 0)
    (h4 : ∀ b : Fin 16, V c main_v26 (ix2 b 0) = BitVec.ofNat 32 (f b + 1)) (hf : ∀ b, f b < 192)
    (h5 : ∀ b : Fin 16, V c main_v27 (ix2 b 0) = BitVec.ofNat 32 (y b)) (hy : ∀ b, y b < 64) (b : Fin 16) :
    (dat1 V c).arrAt 6 cfg1.N (ix2 b 0) = ((-(Lattice.alpha (B b) (L b) (f b) (y b) + B b (f b) (y b)) : ℝ) : EReal) := by
  rw [arr1_apply]
  unfold outsAt1
  exact out1_val B L f y _ _ _ _ _ _ (fun b u t => (iblk1_0_apply V c b u t).trans (h0 b u t)) (fun b u t => (iblk1_1_apply V c b u t).trans (h1 b u t))
    (fun b u t => (iblk1_2_apply V c b u t).trans (h2 b u t)) (fun k t => (iblk1_3_apply V c k t).trans (h3 k t))
    (fun b => (iblk1_4_apply V c b 0).trans (h4 b)) hf (fun b => (iblk1_5_apply V c b 0).trans (h5 b)) hy c
    _ _ _ _ _ _ _ _ _ _ _ _ _ _ b

end value

end Cert.KernelIdeal.Whole

end
end
-- ==== Proof.KernelValue.lean ====
/-
  What the whole kernel computes, batch row by batch row over the real numbers.
-/
module

public import proofs.«01_k».proof.Proof.Run
public import proofs.«01_k».proof.Proof.PrepArrays
public import proofs.«01_k».proof.Proof.DpArrays
public import Idealize.ShloMosaic.Lib.StableHlo.RunRead
public import Idealize.ShloMosaic.Lib.Pointwise

@[expose] public section

set_option maxRecDepth 16384

noncomputable section

namespace Cert.KernelIdeal.Whole

open Idealize.ShloMosaic Idealize.ShloMosaic.TcCoe Cert.KernelIdeal Cert.KernelIdeal.Gen
open Idealize.ShloMosaic.WordCmp
open Idealize.SL Idealize.SL.Sem

/-- A truth value as a number. -/
theorem uitofp_dec (p : Prop) [Decidable p] : (FloatOps.uitofp (F := Ideal) .f32 (BitVec.ofBool (decide p)) : EReal) = if p then 1 else 0 := by
  by_cases h : p
  · rw [if_pos h, decide_eq_true h]; show (((BitVec.ofBool true).toNat : ℝ) : EReal) = 1; simp
  · rw [if_neg h, decide_eq_false h]; show (((BitVec.ofBool false).toNat : ℝ) : EReal) = 0; simp

section host
variable (W : Valuation τ sig (Elt Ideal))

/-- The one-hot rows of the labels. -/
theorem host_v7 (lab : Fin 512) (b : Fin 16) (u : Fin 64) (hu : u.val < 63)
    (hl : W (Proc.devRef .tc main_arg1) (ix2 b ⟨u.val, hu⟩) = BitVec.ofNat 32 lab.val) (h : Fin 512) :
    StableHlo.after hostOps0 W (Proc.devRef .tc main_v7) (ix3 b u h) = if h = lab then (1 : EReal) else 0 := by
  have e : StableHlo.after hostOps0 W (Proc.devRef .tc main_v7) (ix3 b u h)
      = (FloatOps.uitofp (F := Ideal) .f32 (IntOp.cmpi .eq (W (Proc.devRef .tc main_arg1) (ix2 b ⟨u.val, hu⟩)) (BitVec.ofNat 32 h.val)) : EReal) := by
    after_reads_simp
    pointwise
    rw [dif_pos hu]
    after_reads_simp
  have := h.isLt; have := lab.isLt
  rw [e, hl, cmpi_eq_ofNat (by omega) (by omega), uitofp_dec]
  simp only [eq_comm, Fin.ext_iff]

/-- The one-hot row of the blank's index. -/
theorem host_v13 (kb : Fin 512) (hk : W (Proc.devRef .tc main_arg4) ix0 = BitVec.ofNat 32 kb.val) (u : Fin 64) (h : Fin 512) :
    StableHlo.after hostOps0 W (Proc.devRef .tc main_v13) (ix2 u h) = if h = kb then (1 : EReal) else 0 := by
  have e : StableHlo.after hostOps0 W (Proc.devRef .tc main_v13) (ix2 u h)
      = (FloatOps.uitofp (F := Ideal) .f32 (IntOp.cmpi .eq (W (Proc.devRef .tc main_arg4) ix0) (BitVec.ofNat 32 h.val)) : EReal) := by
    after_reads_simp
    pointwise
  have := h.isLt; have := kb.isLt
  rw [e, hk, cmpi_eq_ofNat (by omega) (by omega), uitofp_dec]
  simp only [eq_comm, Fin.ext_iff]

/-- The 16 by 16 triangle of ones below the diagonal. -/
theorem host_v17 (a a' : Fin 16) :
    StableHlo.after hostOps0 W (Proc.devRef .tc main_v17) (ix2 a a') = if a'.val < a.val then (1 : EReal) else 0 := by
  have e : StableHlo.after hostOps0 W (Proc.devRef .tc main_v17) (ix2 a a')
      = (FloatOps.uitofp (F := Ideal) .f32 (IntOp.cmpi .slt (BitVec.ofNat 32 a'.val) (BitVec.ofNat 32 a.val)) : EReal) := by
    after_reads_simp
    pointwise
  have := a.isLt; have := a'.isLt
  rw [e, cmpi_slt_ofNat (by omega) (by omega), uitofp_dec]

/-- The 192 by 192 triangle of ones, diagonal included. -/
theorem host_v25 (k t : Fin 192) :
    StableHlo.after hostOps1 W (Proc.devRef .tc main_v25) (ix2 k t) = if k.val ≤ t.val then (1 : EReal) else 0 := by
  have e : StableHlo.after hostOps1 W (Proc.devRef .tc main_v25) (ix2 k t)
      = (FloatOps.uitofp (F := Ideal) .f32 (IntOp.cmpi .sle (BitVec.ofNat 32 k.val) (BitVec.ofNat 32 t.val)) : EReal) := by
    after_reads_simp
    pointwise
  have := k.isLt; have := t.isLt
  rw [e, cmpi_sle_ofNat (by omega) (by omega), uitofp_dec]

/-- An output of the first call with its last two axes exchanged. -/
theorem host_v19 (b : Fin 16) (u : Fin 64) (t : Fin 192) :
    StableHlo.after hostOps1 W (Proc.devRef .tc main_v19) (ix3 b u t) = W (Proc.devRef .tc main_v18_0) (ix3 b t u) := by
  after_reads_simp
  pointwise
/-- An output of the first call with its last two axes exchanged. -/
theorem host_v20 (b : Fin 16) (u : Fin 64) (t : Fin 192) :
    StableHlo.after hostOps1 W (Proc.devRef .tc main_v20) (ix3 b u t) = W (Proc.devRef .tc main_v18_1) (ix3 b t u) := by
  after_reads_simp
  pointwise
/-- An output of the first call with its last two axes exchanged. -/
theorem host_v21 (b : Fin 16) (u : Fin 64) (t : Fin 192) :
    StableHlo.after hostOps1 W (Proc.devRef .tc main_v21) (ix3 b u t) = W (Proc.devRef .tc main_v18_2) (ix3 b t u) := by
  after_reads_simp
  pointwise
/-- The column of frame lengths. -/
theorem host_v26 (b : Fin 16) : StableHlo.after hostOps1 W (Proc.devRef .tc main_v26) (ix2 b 0) = W (Proc.devRef .tc main_arg2) (ix1 b) := by
  after_reads_simp
  pointwise
/-- The column of label lengths. -/
theorem host_v27 (b : Fin 16) : StableHlo.after hostOps1 W (Proc.devRef .tc main_v27) (ix2 b 0) = W (Proc.devRef .tc main_arg3) (ix1 b) := by
  after_reads_simp
  pointwise
/-- The result is the column the second call returns. -/
theorem host_v29 (b : Fin 16) : StableHlo.after hostOps2 W (Proc.devRef .tc main_v29) (ix1 b) = W (Proc.devRef .tc main_v28) (ix2 b 0) := by
  after_reads_simp
  pointwise

end host

variable (m : (ℓ : Loc nD τ sig) → Buf (Elt Ideal) ℓ) (ρ : Dev nD → PrngReg) (c : Dev nD)

/-- The kernel's result for each batch row: minus the log-weight of its final state and of the blank there. -/
theorem kernel_val (X : Fin 16 → Fin 192 → Fin 64 → Fin 512 → ℝ) (lab : Fin 16 → Fin 64 → Fin 512) (kb : Fin 512) (f y : Fin 16 → ℕ)
    (hX : ∀ b t u h, m ((c : Thread nD τ).loc main_arg0) (ix4 b t u h) = (X b t u h : EReal))
    (hlab : ∀ (b : Fin 16) (u : Fin 63), m ((c : Thread nD τ).loc main_arg1) (ix2 b u) = BitVec.ofNat 32 (lab b ⟨u.val, Nat.lt_succ_of_lt u.isLt⟩).val)
    (hf : ∀ b : Fin 16, m ((c : Thread nD τ).loc main_arg2) (ix1 b) = BitVec.ofNat 32 (f b + 1)) (hf' : ∀ b, f b < 192)
    (hy : ∀ b : Fin 16, m ((c : Thread nD τ).loc main_arg3) (ix1 b) = BitVec.ofNat 32 (y b)) (hy' : ∀ b, y b < 64)
    (hk : m ((c : Thread nD τ).loc main_arg4) ix0 = BitVec.ofNat 32 kb.val) (b : Fin 16) :
    W5 m ρ c (Proc.devRef .tc main_v29) (ix1 b)
      = ((-(Lattice.alpha (bN X kb b) (lN X lab b) (f b) (y b) + bN X kb b (f b) (y b)) : ℝ) : EReal) := by
  have hX1 : ∀ b t u h, V1 m ρ c main_arg0 (ix4 b t u h) = (X b t u h : EReal) := fun b t u h =>
    (congrFun (W1_of m ρ c main_arg0 (by decide)) _).trans (hX b t u h)
  have h1 : ∀ b (u : Fin 64), u.val < 63 → ∀ h, V1 m ρ c main_v7 (ix3 b u h) = if h = lab b u then (1 : EReal) else 0 := fun b u hu h =>
    host_v7 (W0 m ρ c) (lab b u) b u hu (hlab b ⟨u.val, hu⟩) h
  have h2 : ∀ u h, V1 m ρ c main_v13 (ix2 u h) = if h = kb then (1 : EReal) else 0 := host_v13 (W0 m ρ c) kb hk
  have h3 : ∀ a a' : Fin 16, V1 m ρ c main_v17 (ix2 a a') = if a'.val < a.val then (1 : EReal) else 0 := host_v17 (W0 m ρ c)
  refine (host_v29 (W4 m ρ c) b).trans ((congrFun (W4_arr m ρ c 6) (ix2 b 0)).trans ?_)
  refine dp_val (fun b => bN X kb b) (fun b => lN X lab b) f y (V3 m ρ) c
    (fun b u t => (host_v19 _ b u t).trans ((congrFun (W2_arr m ρ c 4) _).trans (lpb_val (V1 m ρ) c X kb hX1 h2 b t u)))
    (fun b u t => (host_v20 _ b u t).trans ((congrFun (W2_arr m ρ c 5) _).trans (lpl_val (V1 m ρ) c X lab hX1 h1 b t u)))
    (fun b u t => (host_v21 _ b u t).trans ((congrFun (W2_arr m ρ c 6) _).trans (q_val (V1 m ρ) c X kb hX1 h2 h3 b t u)))
    (host_v25 _) (fun b => (host_v26 _ b).trans ((congrFun (W2_args m ρ c main_arg2 (by decide)) _).trans (hf b))) hf'
    (fun b => (host_v27 _ b).trans ((congrFun (W2_args m ρ c main_arg3 (by decide)) _).trans (hy b))) hy' b

end Cert.KernelIdeal.Whole

end
end
-- ==== Proof.RefOps.lean ====
/-
  Three operations of the reference, read at an index: a running sum along the last axis, and the gathers.
-/
module

public import proofs.«01_k».proof.Proof.RefFrame
public import Idealize.ShloMosaic.Lib.Pointwise
public import Idealize.ShloMosaic.Lib.StableHlo.RunRead

@[expose] public section

set_option maxRecDepth 16384

noncomputable section

namespace Cert.ReferenceIdeal.Whole
open Idealize.ShloMosaic Idealize.ShloMosaic.TcCoe Idealize.ShloMosaic.StableHlo
open Cert.ReferenceIdeal Cert.ReferenceIdeal.Gen

/-- Adding up a list from zero by a fold is the sum over its positions. -/
theorem fold_add {M : ℕ} (g : Fin M → EReal) : (List.finRange M).foldl (fun r n => r + g n) 0 = ∑ n, g n := by
  have h : ∀ (l : List (Fin M)) (z : EReal), l.foldl (fun r n => r + g n) z = z + (l.map g).sum := by
    intro l
    induction l with
    | nil => intro z; simp
    | cons a l ih => intro z; simp [ih, add_assoc]
  rw [h, zero_add, ← List.sum_ofFn]
  congr 1
  exact (List.ofFn_eq_map ..).symm

/-- A windowed sum from zero is the sum over the window's indices of the element there, padding counting as zero. -/
theorem window_sum {s t u : Shape} (window strides lo hi : Fin s.rank → Nat) (x : FVec Ideal s .f32) (init : u.Idx → Ideal .f32)
    (h : s.ReduceWindows window strides lo hi t) (hu : 0 < u.numel) (h0 : init (Shape.Idx.first hu) = (0 : EReal)) (j : t.Idx) :
    (Host.reduceWindowAdd window strides lo hi x init h hu j : EReal)
      = ∑ i : (⟨s.rank, window⟩ : Shape).Idx,
          if hin : ∀ a, lo a ≤ (j (a.cast h.1.symm)).val * strides a + (i a).val
              ∧ (j (a.cast h.1.symm)).val * strides a + (i a).val - lo a < s.size a
          then (x (fun a => ⟨(j (a.cast h.1.symm)).val * strides a + (i a).val - lo a, (hin a).2⟩) : EReal) else 0 := by
  show Host.reduceWindow (· + ·) window strides lo hi x (fun _ : (⟨0, ![]⟩ : Shape).Idx => init (Shape.Idx.first hu)) h (by decide) j = _
  unfold Host.reduceWindow
  dsimp only
  rw [h0]
  rw [fold_add]
  refine Eq.trans (Finset.sum_congr rfl fun n _ => ?_) (Equiv.sum_comp ((⟨s.rank, window⟩ : Shape).rowMajor.symm) (fun i => if hin : ∀ a, lo a ≤ (j (a.cast h.1.symm)).val * strides a + (i a).val
              ∧ (j (a.cast h.1.symm)).val * strides a + (i a).val - lo a < s.size a
          then (x (fun a => ⟨(j (a.cast h.1.symm)).val * strides a + (i a).val - lo a, (hin a).2⟩) : EReal) else 0))
  congr 1

/-- Over a window of `M + 1` ending at position `j`, the terms inside are those at `0, …, j`. -/
theorem window_range (M j : ℕ) (hj : j ≤ M) (G : ℕ → EReal) :
    ∑ n : Fin (M + 1), (if M ≤ j + n.val then G (j + n.val - M) else 0) = ∑ k ∈ Finset.range (j + 1), G k := by
  rw [Fin.sum_univ_eq_sum_range (fun n => if M ≤ j + n then G (j + n - M) else 0) (M + 1), ← Finset.sum_filter]
  refine Finset.sum_nbij' (fun n => j + n - M) (fun k => k + M - j) ?_ ?_ ?_ ?_ ?_ <;>
    simp only [Finset.mem_filter, Finset.mem_range] <;> intros <;> first | rfl | omega | trivial

/-- The running sum along the last axis of a `[16, 192, 63]` array. -/
theorem cumsum3 (x : FVec Ideal S16x192x63 .f32) (init : S_.Idx → Ideal .f32)
    (h : S16x192x63.ReduceWindows ![1, 1, 63] ![1, 1, 1] ![0, 0, 62] ![0, 0, 0] S16x192x63) (hu : 0 < S_.numel)
    (h0 : init (Shape.Idx.first hu) = (0 : EReal)) (b : Fin 16) (t : Fin 192) (u : Fin 63) (G : ℕ → EReal)
    (hx : ∀ k : Fin 63, x (ix3 b t k) = G k.val) :
    (Host.reduceWindowAdd ![1, 1, 63] ![1, 1, 1] ![0, 0, 62] ![0, 0, 0] x init h hu (ix3 b t u) : EReal)
      = ∑ k ∈ Finset.range (u.val + 1), G k := by
  rw [window_sum _ _ _ _ _ _ _ _ h0, ← window_range 62 u.val (by omega)]
  refine Fintype.sum_equiv ⟨fun i => (i 2 : Fin 63), fun n => ix3 (0 : Fin 1) (0 : Fin 1) n, ?_, ?_⟩ _ _ ?_
  · intro i; funext a; match a with
    | ⟨0, _⟩ => exact Subsingleton.elim (α := Fin 1) _ _
    | ⟨1, _⟩ => exact Subsingleton.elim (α := Fin 1) _ _
    | ⟨2, _⟩ => rfl
  · intro n; rfl
  · intro i
    have i0 : (i 0).val = 0 := by have := (i 0).isLt; change _ < 1 at this; omega
    have i1 : (i 1).val = 0 := by have := (i 1).isLt; change _ < 1 at this; omega
    have i2 : (i 2).val < 63 := (i 2).isLt
    show _ = if 62 ≤ u.val + (i 2).val then G (u.val + (i 2).val - 62) else 0
    split
    · next hin =>
      have hh := (hin 2).1
      change 62 ≤ u.val * 1 + (i 2).val at hh
      rw [if_pos (by omega), ← hx ⟨u.val + (i 2).val - 62, by omega⟩]
      refine congrArg x (funext fun a => Fin.ext ?_)
      match a with
      | ⟨0, _⟩ => show b.val * 1 + (i 0).val - 0 = b.val; omega
      | ⟨1, _⟩ => show t.val * 1 + (i 1).val - 0 = t.val; omega
      | ⟨2, _⟩ => show u.val * 1 + (i 2).val - 62 = u.val + (i 2).val - 62; omega
    · next hin =>
      rw [if_neg fun hle => hin fun a => ?_]
      match a with
      | ⟨0, _⟩ => show 0 ≤ b.val * 1 + (i 0).val ∧ b.val * 1 + (i 0).val - 0 < 16; omega
      | ⟨1, _⟩ => show 0 ≤ t.val * 1 + (i 1).val ∧ t.val * 1 + (i 1).val - 0 < 192; omega
      | ⟨2, _⟩ => show 62 ≤ u.val * 1 + (i 2).val ∧ u.val * 1 + (i 2).val - 62 < 63; omega

/-- The running sum along the last axis of a `[16, 64]` array. -/
theorem cumsum2 (x : FVec Ideal S16x64 .f32) (init : S_.Idx → Ideal .f32)
    (h : S16x64.ReduceWindows ![1, 64] ![1, 1] ![0, 63] ![0, 0] S16x64) (hu : 0 < S_.numel)
    (h0 : init (Shape.Idx.first hu) = (0 : EReal)) (b : Fin 16) (u : Fin 64) (G : ℕ → EReal)
    (hx : ∀ k : Fin 64, x (ix2 b k) = G k.val) :
    (Host.reduceWindowAdd ![1, 64] ![1, 1] ![0, 63] ![0, 0] x init h hu (ix2 b u) : EReal)
      = ∑ k ∈ Finset.range (u.val + 1), G k := by
  rw [window_sum _ _ _ _ _ _ _ _ h0, ← window_range 63 u.val (by omega)]
  refine Fintype.sum_equiv ⟨fun i => (i 1 : Fin 64), fun n => ix2 (0 : Fin 1) n, ?_, ?_⟩ _ _ ?_
  · intro i; funext a; match a with
    | ⟨0, _⟩ => exact Subsingleton.elim (α := Fin 1) _ _
    | ⟨1, _⟩ => rfl
  · intro n; rfl
  · intro i
    have i0 : (i 0).val = 0 := by have := (i 0).isLt; change _ < 1 at this; omega
    have i2 : (i 1).val < 64 := (i 1).isLt
    show _ = if 63 ≤ u.val + (i 1).val then G (u.val + (i 1).val - 63) else 0
    split
    · next hin =>
      have hh := (hin 1).1
      change 63 ≤ u.val * 1 + (i 1).val at hh
      rw [if_pos (by omega), ← hx ⟨u.val + (i 1).val - 63, by omega⟩]
      refine congrArg x (funext fun a => Fin.ext ?_)
      match a with
      | ⟨0, _⟩ => show b.val * 1 + (i 0).val - 0 = b.val; omega
      | ⟨1, _⟩ => show u.val * 1 + (i 1).val - 63 = u.val + (i 1).val - 63; omega
    · next hin =>
      rw [if_neg fun hle => hin fun a => ?_]
      match a with
      | ⟨0, _⟩ => show 0 ≤ b.val * 1 + (i 0).val ∧ b.val * 1 + (i 0).val - 0 < 16; omega
      | ⟨1, _⟩ => show 63 ≤ u.val * 1 + (i 1).val ∧ u.val * 1 + (i 1).val - 63 < 64; omega

/-- A small natural survives as a word read signed. -/
theorem word_toNat (n : ℕ) (h : n < 2147483648) : (BitVec.ofNat 32 n).toInt.toNat = n := by
  rw [BitVec.toInt_eq_toNat_of_lt (by rw [BitVec.toNat_ofNat]; omega), BitVec.toNat_ofNat]; omega

/-- The gather of one element per batch row out of a `[192, 16, 64]` array, at in-range start indices. -/
theorem gather_tbu {α : Type} (x : S192x16x64.Idx → α) (idx : IVec S16x3 32) (b : Fin 16) (i : Fin 192) (j : Fin 16) (k : Fin 64)
    (h0 : idx (ix2 b (0 : Fin 3)) = BitVec.ofNat 32 i.val) (h1 : idx (ix2 b (1 : Fin 3)) = BitVec.ofNat 32 j.val)
    (h2 : idx (ix2 b (2 : Fin 3)) = BitVec.ofNat 32 k.val) :
    Host.gather gather_S192x16x64_S16x3_S16_n_012_n_n_012_1_111 x idx (ix1 b) = x (ix3 i j k) := by
  unfold Host.gather
  refine congrArg x (funext fun a => Fin.ext ?_)
  have hs : ∀ q : Fin 3, gather_S192x16x64_S16x3_S16_n_012_n_n_012_1_111.siIdx (ix1 b) q = ix2 b q := by
    intro q; funext r; refine Fin.ext ?_
    match r with
    | ⟨0, _⟩ => rfl
    | ⟨1, _⟩ => rfl
  show gather_S192x16x64_S16x3_S16_n_012_n_n_012_1_111.start (ix1 b) idx a
    + gather_S192x16x64_S16x3_S16_n_012_n_n_012_1_111.batchCoord (ix1 b) a
    + gather_S192x16x64_S16x3_S16_n_012_n_n_012_1_111.offCoord (ix1 b) a = _
  rw [GatherDims.batchCoord_eq_zero _ _ _ List.not_mem_nil,
    GatherDims.offCoord_eq_zero _ _ _ (fun h => ((GatherDims.mem_sKept _ _).mp h).1 (by revert a; decide))]
  unfold GatherDims.start
  rw [dif_pos (by revert a; decide)]
  have := i.isLt; have := j.isLt; have := k.isLt
  match a with
  | ⟨0, _⟩ =>
    show min (idx (gather_S192x16x64_S16x3_S16_n_012_n_n_012_1_111.siIdx (ix1 b) (0 : Fin 3))).toInt.toNat 191 + 0 + 0 = i.val
    rw [hs, h0, word_toNat _ (by omega)]; omega
  | ⟨1, _⟩ =>
    show min (idx (gather_S192x16x64_S16x3_S16_n_012_n_n_012_1_111.siIdx (ix1 b) (1 : Fin 3))).toInt.toNat 15 + 0 + 0 = j.val
    rw [hs, h1, word_toNat _ (by omega)]; omega
  | ⟨2, _⟩ =>
    show min (idx (gather_S192x16x64_S16x3_S16_n_012_n_n_012_1_111.siIdx (ix1 b) (2 : Fin 3))).toInt.toNat 63 + 0 + 0 = k.val
    rw [hs, h2, word_toNat _ (by omega)]; omega

/-- The gather of one element per batch row out of a `[16, 192, 64]` array, at in-range start indices. -/
theorem gather_btu {α : Type} (x : S16x192x64.Idx → α) (idx : IVec S16x3 32) (b : Fin 16) (i : Fin 16) (j : Fin 192) (k : Fin 64)
    (h0 : idx (ix2 b (0 : Fin 3)) = BitVec.ofNat 32 i.val) (h1 : idx (ix2 b (1 : Fin 3)) = BitVec.ofNat 32 j.val)
    (h2 : idx (ix2 b (2 : Fin 3)) = BitVec.ofNat 32 k.val) :
    Host.gather gather_S16x192x64_S16x3_S16_n_012_n_n_012_1_111 x idx (ix1 b) = x (ix3 i j k) := by
  unfold Host.gather
  refine congrArg x (funext fun a => Fin.ext ?_)
  have hs : ∀ q : Fin 3, gather_S16x192x64_S16x3_S16_n_012_n_n_012_1_111.siIdx (ix1 b) q = ix2 b q := by
    intro q; funext r; refine Fin.ext ?_
    match r with
    | ⟨0, _⟩ => rfl
    | ⟨1, _⟩ => rfl
  show gather_S16x192x64_S16x3_S16_n_012_n_n_012_1_111.start (ix1 b) idx a
    + gather_S16x192x64_S16x3_S16_n_012_n_n_012_1_111.batchCoord (ix1 b) a
    + gather_S16x192x64_S16x3_S16_n_012_n_n_012_1_111.offCoord (ix1 b) a = _
  rw [GatherDims.batchCoord_eq_zero _ _ _ List.not_mem_nil,
    GatherDims.offCoord_eq_zero _ _ _ (fun h => ((GatherDims.mem_sKept _ _).mp h).1 (by revert a; decide))]
  unfold GatherDims.start
  rw [dif_pos (by revert a; decide)]
  have := i.isLt; have := j.isLt; have := k.isLt
  match a with
  | ⟨0, _⟩ =>
    show min (idx (gather_S16x192x64_S16x3_S16_n_012_n_n_012_1_111.siIdx (ix1 b) (0 : Fin 3))).toInt.toNat 15 + 0 + 0 = i.val
    rw [hs, h0, word_toNat _ (by omega)]; omega
  | ⟨1, _⟩ =>
    show min (idx (gather_S16x192x64_S16x3_S16_n_012_n_n_012_1_111.siIdx (ix1 b) (1 : Fin 3))).toInt.toNat 191 + 0 + 0 = j.val
    rw [hs, h1, word_toNat _ (by omega)]; omega
  | ⟨2, _⟩ =>
    show min (idx (gather_S16x192x64_S16x3_S16_n_012_n_n_012_1_111.siIdx (ix1 b) (2 : Fin 3))).toInt.toNat 63 + 0 + 0 = k.val
    rw [hs, h2, word_toNat _ (by omega)]; omega

/-- The gather of one element along the last axis at every `(b, t, u)`, at an in-range start index. -/
theorem gather_label {α : Type} (x : S16x192x63x512.Idx → α) (idx : IVec S16x192x63x1x1 32) (b : Fin 16) (t : Fin 192) (u : Fin 63) (k : Fin 512)
    (h0 : idx (ix5 b t u (0 : Fin 1) (0 : Fin 1)) = BitVec.ofNat 32 k.val) :
    Host.gather gather_S16x192x63x512_S16x192x63x1x1_S16x192x63x1_n_3_012_012_3_4_1111 x idx (ix4 b t u (0 : Fin 1)) = x (ix4 b t u k) := by
  unfold Host.gather
  refine congrArg x (funext fun a => Fin.ext ?_)
  have hs : ∀ q : Fin 1, gather_S16x192x63x512_S16x192x63x1x1_S16x192x63x1_n_3_012_012_3_4_1111.siIdx (ix4 b t u (0 : Fin 1)) q = ix5 b t u (0 : Fin 1) (0 : Fin 1) := by
    intro q; obtain rfl : q = 0 := Subsingleton.elim _ _
    funext r; refine Fin.ext ?_
    match r with
    | ⟨0, _⟩ => rfl
    | ⟨1, _⟩ => rfl
    | ⟨2, _⟩ => rfl
    | ⟨3, _⟩ => rfl
    | ⟨4, _⟩ => rfl
  show gather_S16x192x63x512_S16x192x63x1x1_S16x192x63x1_n_3_012_012_3_4_1111.start (ix4 b t u (0 : Fin 1)) idx a
    + gather_S16x192x63x512_S16x192x63x1x1_S16x192x63x1_n_3_012_012_3_4_1111.batchCoord (ix4 b t u (0 : Fin 1)) a
    + gather_S16x192x63x512_S16x192x63x1x1_S16x192x63x1_n_3_012_012_3_4_1111.offCoord (ix4 b t u (0 : Fin 1)) a = _
  rw [GatherDims.offCoord_eq_zero _ _ _ (fun h => by
    have h' := (GatherDims.mem_sKept _ _).mp h
    revert h'; clear h; revert a; decide)]
  match a with
  | ⟨0, _⟩ => rw [GatherDims.start_batching _ _ _ _ (by decide +revert)]; show 0 + b.val + 0 = b.val; omega
  | ⟨1, _⟩ => rw [GatherDims.start_batching _ _ _ _ (by decide +revert)]; show 0 + t.val + 0 = t.val; omega
  | ⟨2, _⟩ => rw [GatherDims.start_batching _ _ _ _ (by decide +revert)]; show 0 + u.val + 0 = u.val; omega
  | ⟨3, _⟩ =>
    rw [GatherDims.batchCoord_eq_zero _ _ _ (by decide +revert)]
    unfold GatherDims.start
    rw [dif_pos (by decide +revert)]
    show min (idx (gather_S16x192x63x512_S16x192x63x1x1_S16x192x63x1_n_3_012_012_3_4_1111.siIdx (ix4 b t u (0 : Fin 1)) (0 : Fin 1))).toInt.toNat 511 + 0 + 0 = k.val
    have := k.isLt
    rw [hs, h0, word_toNat _ (by omega)]; omega

end Cert.ReferenceIdeal.Whole
-- ==== Proof.RefValue.lean ====
/-
  What the reference computes before its loop, batch row by batch row over the real numbers.
-/
module

public import proofs.«01_k».proof.Proof.RefOps
public import proofs.«01_k».proof.Proof.PrepArrays
public import Idealize.ShloMosaic.Lib.ReduceAll

@[expose] public section

set_option maxRecDepth 16384

noncomputable section

namespace Cert.ReferenceIdeal.Whole
open Idealize.ShloMosaic Idealize.ShloMosaic.TcCoe Idealize.ShloMosaic.StableHlo
open Cert.ReferenceIdeal Cert.ReferenceIdeal.Gen Cert.ReferenceIdeal.Value
open Cert.KernelIdeal.Whole (bN lN bN_of lN_of lse log_sum_exp select_dec coe_sum)
open Idealize.ShloMosaic.WordCmp

/-- A non-negative index is its own wrap-around. -/
theorem wrap_nonneg (n : ℕ) (h : n < 2147483648) (d : BitVec 32) :
    Scalar.select (IntOp.cmpi CmpIPredicate.slt (BitVec.ofNat 32 n) 0#32) (IntOp.addi (BitVec.ofNat 32 n) d) (BitVec.ofNat 32 n)
      = BitVec.ofNat 32 n := by
  rw [cmpi_slt_zero, select_dec, if_neg (by rw [BitVec.toNat_ofNat]; omega)]

/-- Two four-axis indices with equal coordinates are equal. -/
theorem ix4_congr {n0 n1 n2 n3 : ℕ} {a a' : Fin n0} {b b' : Fin n1} {c c' : Fin n2} {d d' : Fin n3}
    (h0 : a = a') (h1 : b = b') (h2 : c = c') (h3 : d = d') : ix4 a b c d = ix4 a' b' c' d' := by
  subst h0 h1 h2 h3; rfl

/-- The one index of a rank-zero array. -/
theorem first_ix0 : Shape.Idx.first h_S_ = ix0 := funext fun a => a.elim0

/-- On an axis the slice covers whole, the clamped start is zero. -/
theorem clamp_full {s t : Shape} (ht : t.rank = s.rank) (start : Fin s.rank → Int) (a : Fin s.rank) (h : s.size a - t.size (a.cast ht.symm) = 0) :
    Host.clampedStart s t ht start a = 0 := by
  unfold Host.clampedStart; rw [h]; omega

section host0
variable (W : Valuation τ sig (Elt Ideal))

/-- A value kept where it is finite and replaced by zero elsewhere is a real number. -/
theorem finite_or_zero (a : EReal) : ∃ M : ℝ,
    Scalar.select (IntOp.andi (BitVec.ofBool (decide (Ideal.ofBits .f32 0xFF800000#32 < a))) (BitVec.ofBool (decide (a < Ideal.ofBits .f32 0x7F800000#32)))) a (0 : EReal)
      = ((M : ℝ) : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht]
  induction a with
  | bot => exact ⟨0, by simp [Scalar.select, IntOp.andi]⟩
  | top => exact ⟨0, by simp [Scalar.select, IntOp.andi]⟩
  | coe x => exact ⟨x, by simp [Scalar.select, IntOp.andi, EReal.bot_lt_coe, EReal.coe_lt_top]⟩

/-- The logarithm of a sum of exponentials is the same after a shift by any real number. -/
theorem lse_shift {n : ℕ} [NeZero n] (r : Fin n → ℝ) (M : ℝ) :
    Ideal.log (max (∑ h, Ideal.exp ((r h : EReal) - (M : EReal))) (-(∑ h, Ideal.exp ((r h : EReal) - (M : EReal))))) + (M : EReal)
      = ((lse r : ℝ) : EReal) := by
  have h : ∑ h, Ideal.exp ((r h : EReal) - (M : EReal)) = ((∑ h, Real.exp (r h - M) : ℝ) : EReal) := by
    rw [coe_sum]; rfl
  have hp : 0 < ∑ h, Real.exp (r h - M) := Finset.sum_pos (fun _ _ => Real.exp_pos _) ⟨0, Finset.mem_univ _⟩
  have hq : 0 < ∑ h, Real.exp (r h) := Finset.sum_pos (fun _ _ => Real.exp_pos _) ⟨0, Finset.mem_univ _⟩
  have e : ∑ h, Real.exp (r h - M) = (∑ h, Real.exp (r h)) / Real.exp M := by
    rw [Finset.sum_div]; exact Finset.sum_congr rfl fun h _ => Real.exp_sub _ _
  rw [h, ← EReal.coe_neg, max_eq_left (EReal.coe_le_coe_iff.mpr (by linarith)), Ideal.log_coe, if_neg hp.not_ge, ← EReal.coe_add, e,
    Real.log_div hq.ne' (Real.exp_pos M).ne', Real.log_exp, sub_add_cancel]
  rfl

/-- The guarded maximum of each row is a real number. -/
theorem guard_val (A : FVec Ideal S16x192x64 .f32) (b : Fin 16) (t : Fin 192) (u : Fin 64) : ∃ M : ℝ,
    select (andi (cmpf .ogt A (broadcastInDim S16x192x64 ![] bcast_S_S16x192x64 (constant (F := Ideal) S_ .f32 0xFF800000#32)))
        (cmpf .olt A (broadcastInDim S16x192x64 ![] bcast_S_S16x192x64 (constant (F := Ideal) S_ .f32 0x7F800000#32))))
      A (broadcastInDim S16x192x64 ![] bcast_S_S16x192x64 (constant (F := Ideal) S_ .f32 0#32)) (ix3 b t u) = ((M : ℝ) : EReal) := by
  obtain ⟨M, hM⟩ := finite_or_zero (A (ix3 b t u))
  refine ⟨M, hM ▸ ?_⟩
  pointwise

/-- The normaliser, from the logits and the shift. -/
theorem shifted_val (x : FVec Ideal S16x192x64x512 .f32) (S : FVec Ideal S16x192x64 .f32) (b : Fin 16) (t : Fin 192) (u : Fin 64) :
    addf (Host.log (Host.absf (Host.reduceAdd (Host.exp (subf x
        (broadcastInDim S16x192x64x512 ![0, 1, 2, 3] bcast_S16x192x64x1_S16x192x64x512_0_1_2_3
          (broadcastInDim S16x192x64x1 ![0, 1, 2] bcast_S16x192x64_S16x192x64x1_0_1_2 S))))
        (constant (F := Ideal) S_ .f32 0#32) reducesTo_S16x192x64x512_S16x192x64_d3 h_S_))) S (ix3 b t u)
      = (fun p q : EReal => Ideal.log (max p (-p)) + q) (∑ h, Ideal.exp ((fun p q : EReal => p - q) (x (ix4 b t u h)) (S (ix3 b t u)))) (S (ix3 b t u)) := by
  pointwise
  rfl

/-- The normaliser of each logit row. -/
theorem v17_val (r : Fin 512 → ℝ) (b : Fin 16) (t : Fin 192) (u : Fin 64)
    (hX : ∀ h, W (Proc.devRef .tc main_arg0) (ix4 b t u h) = ((r h : ℝ) : EReal)) :
    StableHlo.after hostOps0 W (Proc.devRef .tc main_v17) (ix3 b t u) = ((lse r : ℝ) : EReal) := by
  after_reads_simp
  obtain ⟨M, hM⟩ := guard_val (maximumf (broadcastInDim S16x192x64 ![] bcast_S_S16x192x64 (constant (F := Ideal) S_ .f32 0xFF800000#32))
    (Host.reduce (FloatOps.maximumf (F := Ideal) (φ := .f32)) (W (Proc.devRef .tc main_arg0)) (constant (F := Ideal) S_ .f32 0xFF800000#32)
      reducesTo_S16x192x64x512_S16x192x64_d3 h_S_)) b t u
  refine (shifted_val _ _ b t u).trans ?_
  rw [hM]
  simp only [hX]
  exact lse_shift r M
/-- The blank index the slice starts at. -/
theorem v29_val (kb : Fin 512) (hk : W (Proc.devRef .tc main_arg4) ix0 = BitVec.ofNat 32 kb.val) :
    upto hostOps0 W 53 (Proc.devRef .tc main_v29) ix0 = BitVec.ofNat 32 kb.val := by
  after_reads_simp
  pointwise
  rw [hk, wrap_nonneg _ (by omega)]

/-- The blank log-probability of each node. -/
theorem v32_val (r : Fin 512 → ℝ) (kb : Fin 512) (hk : W (Proc.devRef .tc main_arg4) ix0 = BitVec.ofNat 32 kb.val)
    (b : Fin 16) (t : Fin 192) (u : Fin 64)
    (hX : ∀ h, W (Proc.devRef .tc main_arg0) (ix4 b t u h) = ((r h : ℝ) : EReal)) :
    StableHlo.after hostOps0 W (Proc.devRef .tc main_v32) (ix3 b t u) = ((r kb - lse r : ℝ) : EReal) := by
  have h14 := v29_val W kb hk
  have h17 := v17_val W r b t u hX
  have := kb.isLt
  revert h17
  after_reads_simp
  generalize addf (F := Ideal) (φ := .f32) (Host.log _) _ = D
  intro h17
  pointwise
  rw [EReal.coe_sub, ← h17, ← hX kb]
  congr 1
  have hc : ∀ h : (Proc.devRef (τ := τ) .tc (![main_v20, main_v23, main_v26, main_v29] 3)).ty.Contents (Elt Ideal) = (⟨S_, .i32⟩ : BufTy).Contents (Elt Ideal),
      (cast h (upto hostOps0 W 53 (Proc.devRef .tc (![main_v20, main_v23, main_v26, main_v29] 3)))) (Shape.Idx.first h_S_) = BitVec.ofNat 32 kb.val :=
    fun h => by
      rw [first_ix0]
      exact h14
  refine congrArg (W (Proc.devRef .tc main_arg0)) (ix4_congr (Fin.ext ?_) (Fin.ext ?_) (Fin.ext ?_) (Fin.ext ?_))
  · dsimp only
    exact (congrArg (· + b.val) (clamp_full (s := S16x192x64x512) (t := S16x192x64x1) rfl _ 0 rfl)).trans (Nat.zero_add _)
  · dsimp only
    exact (congrArg (· + t.val) (clamp_full (s := S16x192x64x512) (t := S16x192x64x1) rfl _ 1 rfl)).trans (Nat.zero_add _)
  · dsimp only
    exact (congrArg (· + u.val) (clamp_full (s := S16x192x64x512) (t := S16x192x64x1) rfl _ 2 rfl)).trans (Nat.zero_add _)
  · dsimp only
    refine Host.clampedStart_of_le (s := S16x192x64x512) (t := S16x192x64x1) rfl _ 3 kb.val ?_ ?_
    · rw [hc, toInt_ofNat_of_lt (by omega)]
    · show kb.val + 1 ≤ 512
      omega

/-- The labels, repeated over the frames. -/
theorem v34_val (b : Fin 16) (t : Fin 192) (u : Fin 63) :
    StableHlo.after hostOps0 W (Proc.devRef .tc main_v34) (ix4 b t u 0) = W (Proc.devRef .tc main_arg1) (ix2 b u) := by
  after_reads_simp
  pointwise

/-- The logits of all label positions but the last. -/
theorem v35_val (b : Fin 16) (t : Fin 192) (u : Fin 63) (h : Fin 512) :
    StableHlo.after hostOps0 W (Proc.devRef .tc main_v35) (ix4 b t u h) = W (Proc.devRef .tc main_arg0) (ix4 b t ⟨u.val, by omega⟩ h) := by
  after_reads_simp
  pointwise

end host0

section host1
variable (W : Valuation τ sig (Elt Ideal))

/-- A buffer holds an array of its own type as it is. -/
theorem toBuf_v36 (h1 h2 h3) (v : (⟨S16x192x63x1, .f32⟩ : BufTy).Contents (Elt Ideal)) : (TRef.of (sig := sig) main_v36 h1 h2 h3).toBuf v = v := rfl
/-- A buffer holds an array of its own type as it is. -/
theorem toBuf_c4 (h1 h2 h3) (v : (⟨S16x192x63x1, .i32⟩ : BufTy).Contents (Elt Ideal)) : (TRef.of (sig := sig) main_call0_v4 h1 h2 h3).toBuf v = v := rfl
/-- A buffer holds an array of its own type as it is. -/
theorem ofBuf_c5 (h1 h2 h3) (v : (⟨S16x192x63x1x1, .i32⟩ : BufTy).Contents (Elt Ideal)) : (TRef.of (sig := sig) (T := ⟨S16x192x63x1x1, .i32⟩) main_call0_v5 h1 h2 h3).ofBuf v = v := rfl
/-- A buffer holds an array of its own type as it is. -/
theorem ofBuf_v34 (h1 h2 h3) (v : (⟨S16x192x63x1, .i32⟩ : BufTy).Contents (Elt Ideal)) : (TRef.of (sig := sig) (T := ⟨S16x192x63x1, .i32⟩) main_v34 h1 h2 h3).ofBuf v = v := rfl
/-- A buffer holds an array of its own type as it is. -/
theorem ofBuf_v35 (h1 h2 h3) (v : (⟨S16x192x63x512, .f32⟩ : BufTy).Contents (Elt Ideal)) : (TRef.of (sig := sig) (T := ⟨S16x192x63x512, .f32⟩) main_v35 h1 h2 h3).ofBuf v = v := rfl

/-- The checked gather of the labels' logits, at in-range labels. -/
theorem take_labels (lab : Fin 16 → Fin 63 → Fin 512) (idx : IVec S16x192x63x1x1 32) (x : S16x192x63x512.Idx → EReal) (z : S16x192x63x1.Idx → EReal)
    (h : ∀ b t u, idx (ix5 b t u (0 : Fin 1) (0 : Fin 1)) = BitVec.ofNat 32 (lab b u).val)
    (b : Fin 16) (t : Fin 192) (u : Fin 63) :
    select (Host.reduce IntOp.andi
        (andi (cmpi CmpIPredicate.sge idx (broadcastInDim S16x192x63x1x1 ![] bcast_S_S16x192x63x1x1 (constantI S_ 32 0#32)))
          (cmpi CmpIPredicate.sle idx
            (broadcastInDim S16x192x63x1x1 ![0, 1, 2, 3, 4] bcast_S1x1x1x1x1_S16x192x63x1x1_0_1_2_3_4
              (broadcastInDim S1x1x1x1x1 ![4] bcast_S1_S1x1x1x1x1_4 (constantI S1 32 511#32)))))
        (constantI S_ 1 1#1) reducesTo_S16x192x63x1x1_S16x192x63x1_d4 h_S_)
      (Host.gather gather_S16x192x63x512_S16x192x63x1x1_S16x192x63x1_n_3_012_012_3_4_1111 x idx) z (ix4 b t u 0)
      = x (ix4 b t u (lab b u)) := by
  have hr : ∀ j, Host.reduce IntOp.andi
        (andi (cmpi CmpIPredicate.sge idx (broadcastInDim S16x192x63x1x1 ![] bcast_S_S16x192x63x1x1 (constantI S_ 32 0#32)))
          (cmpi CmpIPredicate.sle idx
            (broadcastInDim S16x192x63x1x1 ![0, 1, 2, 3, 4] bcast_S1x1x1x1x1_S16x192x63x1x1_0_1_2_3_4
              (broadcastInDim S1x1x1x1x1 ![4] bcast_S1_S1x1x1x1x1_4 (constantI S1 32 511#32)))))
        (constantI S_ 1 1#1) reducesTo_S16x192x63x1x1_S16x192x63x1_d4 h_S_ j = 1#1 := fun j => by
    refine Host.reduce_andi_one _ _ _ _ _ rfl fun i => ?_
    obtain ⟨b, t, u, rfl⟩ : ∃ (b : Fin 16) (t : Fin 192) (u : Fin 63), i = ix5 b t u (0 : Fin 1) (0 : Fin 1) :=
      ⟨i 0, i 1, i 2, funext fun a => by
        match a with
        | ⟨0, _⟩ => rfl
        | ⟨1, _⟩ => rfl
        | ⟨2, _⟩ => rfl
        | ⟨3, _⟩ => exact Subsingleton.elim (α := Fin 1) _ _
        | ⟨4, _⟩ => exact Subsingleton.elim (α := Fin 1) _ _⟩
    show IntOp.andi (IntOp.cmpi .sge (idx (ix5 b t u (0 : Fin 1) (0 : Fin 1))) 0#32) (IntOp.cmpi .sle (idx (ix5 b t u (0 : Fin 1) (0 : Fin 1))) 511#32) = 1#1
    have := (lab b u).isLt
    rw [h, cmpi_sge_zero, show (511#32) = BitVec.ofNat 32 511 from rfl, cmpi_sle_ofNat (by omega) (by omega), andi_ofBool,
      decide_eq_true (by rw [BitVec.toNat_ofNat]; omega), decide_eq_true (by omega)]
    rfl
  show Scalar.select _ _ _ = _
  rw [hr]
  exact gather_label x idx b t u (lab b u) (h b t u)

/-- The logit of the label at each node that has one. -/
theorem v36_val (lab : Fin 16 → Fin 63 → Fin 512)
    (hl : ∀ b t u, W (Proc.devRef .tc main_v34) (ix4 b t u 0) = BitVec.ofNat 32 (lab b u).val)
    (b : Fin 16) (t : Fin 192) (u : Fin 63) :
    StableHlo.after hostOps0_1 W (Proc.devRef .tc main_v36) (ix4 b t u 0) = W (Proc.devRef .tc main_v35) (ix4 b t u (lab b u)) := by
  after_reads_simp
  simp only [TRef.ofBuf_toBuf]
  simp only [toBuf_v36, toBuf_c4, ofBuf_c5, ofBuf_v34, ofBuf_v35]
  refine take_labels lab _ _ _ (fun b t u => ?_) b t u
  have := (lab b u).isLt
  refine Eq.trans ?_ (wrap_nonneg (lab b u).val (by omega) 512#32)
  rw [← hl b t u]
  refine Eq.trans (b := shapeCast S16x192x63x1x1 _ _ (ix5 b t u (0 : Fin 1) (0 : Fin 1))) rfl ?_
  pointwise

/-- The label log-probability of each node: the logit less the normaliser. -/
theorem v39_val (b : Fin 16) (t : Fin 192) (u : Fin 63) (x y : ℝ)
    (hx : W (Proc.devRef .tc main_v36) (ix4 b t u 0) = (x : EReal)) (hy : W (Proc.devRef .tc main_v17) (ix3 b t ⟨u.val, by omega⟩) = (y : EReal)) :
    StableHlo.after hostOps0_2 W (Proc.devRef .tc main_v39) (ix3 b t u) = ((x - y : ℝ) : EReal) := by
  after_reads_simp
  pointwise
  rw [hx, hy]
  rfl

/-- The label log-probabilities summed along a row. -/
theorem v41_val (b : Fin 16) (t : Fin 192) (u : Fin 63) (G : ℕ → EReal)
    (hG : ∀ k : Fin 63, W (Proc.devRef .tc main_v39) (ix3 b t k) = G k.val) :
    StableHlo.after hostOps0_3 W (Proc.devRef .tc main_v41) (ix3 b t u) = ∑ k ∈ Finset.range (u.val + 1), G k := by
  after_reads_simp
  simp only [TRef.ofBuf_toBuf]
  refine cumsum3 _ _ _ _ ?_ b t u G hG
  pointwise

end host1
end Cert.ReferenceIdeal.Whole
-- ==== Proof.RefLoop.lean ====
/-
  What the reference's loop computes, batch row by batch row over the real numbers.
-/
module

public import proofs.«01_k».proof.Proof.RefValue
public import proofs.«01_k».proof.Proof.Lattice

@[expose] public section

set_option maxRecDepth 16384

noncomputable section

namespace Cert.ReferenceIdeal.Whole
open Idealize.ShloMosaic Idealize.ShloMosaic.TcCoe Idealize.ShloMosaic.StableHlo
open Cert.ReferenceIdeal Cert.ReferenceIdeal.Gen Cert.ReferenceIdeal.Value
open Idealize.ShloMosaic.WordCmp
open Cert.KernelIdeal.Whole (bN lN bN_of lN_of lse log_sum_exp select_dec coe_sum)

section host4
variable (W : Valuation τ sig (Elt Ideal)) (L : Fin 16 → ℕ → ℕ → ℝ)
  (h25 : ∀ (b : Fin 16) (t : Fin 192), W (Proc.devRef .tc main_v40) (ix3 b t 0) = ((L b t.val 0 : ℝ) : EReal))
  (h26 : ∀ (b : Fin 16) (t : Fin 192) (u : Fin 63), W (Proc.devRef .tc main_v41) (ix3 b t u) = ((L b t.val (u.val + 1) : ℝ) : EReal))

include h25 h26

/-- A zero in front of the running sums shifts them by one. -/
theorem lead_cases (b : Fin 16) (t : Fin 192) (u : Fin 64) :
    (if h : u.val < 1 then W (Proc.devRef .tc main_v40) (ix3 b t ⟨u.val, h⟩) else W (Proc.devRef .tc main_v41) (ix3 b t ⟨u.val - 1, by omega⟩))
      = ((L b t.val u.val : ℝ) : EReal) := by
  by_cases h : u.val < 1
  · rw [dif_pos h]
    have hu : (⟨u.val, h⟩ : Fin 1) = 0 := Subsingleton.elim _ _
    rw [hu, h25, show u.val = 0 by omega]
  · rw [dif_neg h, h26]
    show ((L b t.val (u.val - 1 + 1) : ℝ) : EReal) = _
    rw [show u.val - 1 + 1 = u.val by omega]

/-- The running label sums, with their leading zero. -/
theorem v42_val (b : Fin 16) (t : Fin 192) (u : Fin 64) :
    StableHlo.after hostOps0_4 W (Proc.devRef .tc main_v42) (ix3 b t u) = ((L b t.val u.val : ℝ) : EReal) := by
  after_reads_simp
  pointwise
  exact lead_cases W L h25 h26 b t u

/-- The lattice's first frame, as the loop's carried value. -/
theorem v44_val (b : Fin 16) (u : Fin 64) :
    StableHlo.after hostOps0_4 W (Proc.devRef .tc main_v44) (ix2 b u) = ((L b 0 u.val : ℝ) : EReal) := by
  after_reads_simp
  pointwise
  after_reads_simp
  exact lead_cases W L h25 h26 b 0 u

/-- The prefix sums handed to each trip of the loop. -/
theorem e1_val (t : Fin 191) (b : Fin 16) (u : Fin 64) :
    StableHlo.after hostOps0_4 W (Proc.devRef .tc main_v50_1) (ix3 t b u) = ((L b (t.val + 1) u.val : ℝ) : EReal) := by
  after_reads_simp
  simp only [id_eq]
  pointwise
  after_reads_simp
  refine (lead_cases W L h25 h26 b ⟨1 + t.val, by omega⟩ u).trans ?_
  show ((L b (1 + t.val) u.val : ℝ) : EReal) = _
  rw [Nat.add_comm]

/-- The row the loop starts from. -/
theorem e3_val (b : Fin 16) (u : Fin 64) :
    StableHlo.after hostOps0_4 W (Proc.devRef .tc main_v50_3) (ix2 b u) = ((L b 0 u.val : ℝ) : EReal) := by
  after_reads_simp
  simp only [id_eq]
  pointwise
  after_reads_simp
  exact lead_cases W L h25 h26 b 0 u

omit h25 h26
/-- The blank log-probabilities handed to each trip of the loop. -/
theorem e0_val (t : Fin 191) (b : Fin 16) (u : Fin 64) :
    StableHlo.after hostOps0_4 W (Proc.devRef .tc main_v50_0) (ix3 t b u) = W (Proc.devRef .tc main_v32) (ix3 b ⟨t.val, by omega⟩ u) := by
  after_reads_simp
  simp only [id_eq]
  pointwise
end host4

section host5
variable (W : Valuation τ sig (Elt Ideal))

/-- The whole lattice, frame by frame. -/
theorem lattice_val (A : Fin 16 → ℕ → ℕ → ℝ)
    (h29 : ∀ (b : Fin 16) (u : Fin 64), W (Proc.devRef .tc main_v44) (ix2 b u) = ((A b 0 u.val : ℝ) : EReal))
    (h35 : ∀ (t : Fin 191) (b : Fin 16) (u : Fin 64), W (Proc.devRef .tc main_v50_4) (ix3 t b u) = ((A b (t.val + 1) u.val : ℝ) : EReal))
    (t : Fin 192) (b : Fin 16) (u : Fin 64) :
    (if h : t.val < 1 then W (Proc.devRef .tc main_v44) (ix2 b u) else W (Proc.devRef .tc main_v50_4) (ix3 ⟨t.val - 1, by omega⟩ b u))
      = ((A b t.val u.val : ℝ) : EReal) := by
  by_cases h : t.val < 1
  · rw [dif_pos h, h29, show t.val = 0 by omega]
  · rw [dif_neg h, h35]
    show ((A b (t.val - 1 + 1) u.val : ℝ) : EReal) = _
    rw [show t.val - 1 + 1 = t.val by omega]

/-- The loss read off the table of rows at the two lengths. -/
theorem v97_val (A B : Fin 16 → ℕ → ℕ → ℝ) (f y : Fin 16 → ℕ) (hf' : ∀ b, f b < 192) (hy' : ∀ b, y b < 64)
    (h29 : ∀ (b : Fin 16) (u : Fin 64), W (Proc.devRef .tc main_v44) (ix2 b u) = ((A b 0 u.val : ℝ) : EReal))
    (h35 : ∀ (t : Fin 191) (b : Fin 16) (u : Fin 64), W (Proc.devRef .tc main_v50_4) (ix3 t b u) = ((A b (t.val + 1) u.val : ℝ) : EReal))
    (h17 : ∀ (b : Fin 16) (t : Fin 192) (u : Fin 64), W (Proc.devRef .tc main_v32) (ix3 b t u) = ((B b t.val u.val : ℝ) : EReal))
    (hf : ∀ b : Fin 16, W (Proc.devRef .tc main_arg2) (ix1 b) = BitVec.ofNat 32 (f b + 1))
    (hy : ∀ b : Fin 16, W (Proc.devRef .tc main_arg3) (ix1 b) = BitVec.ofNat 32 (y b)) (b : Fin 16) :
    StableHlo.after hostOps0_5 W (Proc.devRef .tc main_v97) (ix1 b) = ((-(A b (f b) (y b) + B b (f b) (y b)) : ℝ) : EReal) := by
  have := hf' b; have := hy' b
  have wf : IntOp.subi (BitVec.ofNat 32 (f b + 1)) 1#32 = BitVec.ofNat 32 (f b) := by
    show BitVec.ofNat 32 (f b + 1) - 1#32 = _
    rw [BitVec.ofNat_add]; exact BitVec.add_sub_cancel _ _
  after_reads_simp
  pointwise
  rw [gather_tbu _ _ b ⟨f b, hf' b⟩ b ⟨y b, hy' b⟩ ?_ ?_ ?_, gather_btu _ _ b b ⟨f b, hf' b⟩ ⟨y b, hy' b⟩ ?_ ?_ ?_]
  · pointwise
    after_reads_simp
    pointwise
    have e1 := lattice_val W A h29 h35 ⟨f b, hf' b⟩ b ⟨y b, hy' b⟩
    have e2 := h17 b ⟨f b, hf' b⟩ ⟨y b, hy' b⟩
    dsimp only at e1 e2
    rw [e1, e2]
    rfl
  all_goals
    pointwise
    after_reads_simp
    pointwise
  all_goals
    first
    | exact wrap_nonneg b.val (by omega) _
    | (rw [hf, wf]; exact wrap_nonneg (f b) (by omega) _)
    | (rw [hy]; exact wrap_nonneg (y b) (by omega) _)
end host5

section loop

/-- Two three-axis indices with equal coordinates are equal. -/
theorem ix3_congr {n0 n1 n2 : ℕ} {a a' : Fin n0} {b b' : Fin n1} {c c' : Fin n2}
    (h0 : a = a') (h1 : b = b') (h2 : c = c') : ix3 a b c = ix3 a' b' c' := by
  subst h0 h1 h2; rfl

/-- The clamped start of a one-frame block at an in-range frame. -/
theorem clamp_frame (start : Fin 3 → Int) (k : Fin 191) (hs : start 0 = k.val) :
    Host.clampedStart S191x16x64 S1x16x64 rfl start 0 = k.val :=
  Host.clampedStart_of_le (s := S191x16x64) (t := S1x16x64) rfl start 0 k.val hs (show k.val + 1 ≤ 191 by omega)

/-- One frame sliced out of a stack. -/
theorem frame_val (X : S191x16x64.Idx → EReal) (start : Fin 3 → Int) (h : S191x16x64.Slices (fun _ => 0) S1x16x64)
    (k : Fin 191) (hs : start 0 = k.val) (b : Fin 16) (u : Fin 64) :
    shapeCast S16x64 (Host.dynamicSlice S1x16x64 X start h) shapeCasts_S1x16x64_S16x64 (ix2 b u) = X (ix3 k b u) := by
  pointwise
  refine congrArg X (ix3_congr (Fin.ext ?_) (Fin.ext ?_) (Fin.ext ?_))
  · exact clamp_frame start k hs
  · exact (congrArg (· + b.val) (clamp_full (s := S191x16x64) (t := S1x16x64) rfl start 1 rfl)).trans (Nat.zero_add _)
  · exact (congrArg (· + u.val) (clamp_full (s := S191x16x64) (t := S1x16x64) rfl start 2 rfl)).trans (Nat.zero_add _)

/-- One frame written into a stack. -/
theorem put_val (X : S191x16x64.Idx → EReal) (upd : S1x16x64.Idx → EReal) (start : Fin 3 → Int) (h : S191x16x64.Slices (fun _ => 0) S1x16x64)
    (k : Fin 191) (hs : start 0 = k.val) (t : Fin 191) (b : Fin 16) (u : Fin 64) :
    Host.dynamicUpdateSlice X upd start h (ix3 t b u) = if t = k then upd (ix3 0 b u) else X (ix3 t b u) := by
  have c0 := clamp_frame start k hs
  have c1 := clamp_full (s := S191x16x64) (t := S1x16x64) rfl start 1 rfl
  have c2 := clamp_full (s := S191x16x64) (t := S1x16x64) rfl start 2 rfl
  rw [Host.dynamicUpdateSlice_apply]
  by_cases ht : t = k
  · rw [if_pos ht, dif_pos ?_]
    · refine congrArg upd (funext fun a => Fin.ext ?_)
      match a with
      | ⟨0, _⟩ =>
        show t.val - Host.clampedStart S191x16x64 S1x16x64 rfl start 0 = 0
        rw [c0, ht]; omega
      | ⟨1, _⟩ =>
        show b.val - Host.clampedStart S191x16x64 S1x16x64 rfl start 1 = b.val
        rw [c1]; omega
      | ⟨2, _⟩ =>
        show u.val - Host.clampedStart S191x16x64 S1x16x64 rfl start 2 = u.val
        rw [c2]; omega
    · intro a
      match a with
      | ⟨0, _⟩ =>
        show Host.clampedStart S191x16x64 S1x16x64 rfl start 0 ≤ t.val ∧ t.val < Host.clampedStart S191x16x64 S1x16x64 rfl start 0 + 1
        rw [c0, ht]; omega
      | ⟨1, _⟩ =>
        show Host.clampedStart S191x16x64 S1x16x64 rfl start 1 ≤ b.val ∧ b.val < Host.clampedStart S191x16x64 S1x16x64 rfl start 1 + 16
        rw [c1]; omega
      | ⟨2, _⟩ =>
        show Host.clampedStart S191x16x64 S1x16x64 rfl start 2 ≤ u.val ∧ u.val < Host.clampedStart S191x16x64 S1x16x64 rfl start 2 + 64
        rw [c2]; omega
  · rw [if_neg ht, dif_neg]
    intro hin
    have h0 := hin 0
    change Host.clampedStart S191x16x64 S1x16x64 rfl start 0 ≤ t.val ∧ t.val < Host.clampedStart S191x16x64 S1x16x64 rfl start 0 + 1 at h0
    rw [c0] at h0
    exact ht (Fin.ext (by omega))

variable (V : Valuation τ sig (Elt Ideal)) (k : Fin 191) (h2 : V (Proc.devRef .tc main_v50_2) = fun _ => BitVec.ofNat 32 k.val)

include h2

/-- The frame a trip reads and writes at. -/
theorem start_val : ((![V (Proc.devRef .tc main_v50_2), constantI S_ 32 0#32, constantI S_ 32 0#32] : Fin 3 → (⟨S_, .i32⟩ : BufTy).Contents (Elt Ideal)) 0 (Shape.Idx.first h_S_)).toInt
      = (k.val : Int) :=
  (congrArg BitVec.toInt (congrFun h2 _)).trans (toInt_ofNat_of_lt (by have := k.isLt; omega))

variable (B L : Fin 16 → ℕ → ℕ → ℝ)
  (hb : ∀ (t : Fin 191) (b : Fin 16) (u : Fin 64), V (Proc.devRef .tc main_v50_0) (ix3 t b u) = ((B b t.val u.val : ℝ) : EReal))
  (hl : ∀ (t : Fin 191) (b : Fin 16) (u : Fin 64), V (Proc.devRef .tc main_v50_1) (ix3 t b u) = ((Lattice.lead (L b) (t.val + 1) u.val : ℝ) : EReal))
  (ha : ∀ (b : Fin 16) (u : Fin 64), V (Proc.devRef .tc main_v50_3) (ix2 b u) = ((Lattice.alpha (B b) (L b) k.val u.val : ℝ) : EReal))

include hb hl ha

/-- A trip carries the lattice one frame on. -/
theorem next_val (b : Fin 16) (u : Fin 64) :
    res_main_while0b_v105 V (ix2 b u) = ((Lattice.alpha (B b) (L b) (k.val + 1) u.val : ℝ) : EReal) := by
  have hs := start_val V k h2
  have h84 : ∀ w : Fin 64, res_main_while0b_v99 V (ix2 b w) = ((Lattice.lead (L b) (k.val + 1) w.val : ℝ) : EReal) := fun w => by
    unfold res_main_while0b_v99
    exact (frame_val _ _ _ k hs b w).trans (hl k b w)
  unfold res_main_while0b_v105
  rw [Lattice.alpha_col, EReal.coe_add]
  refine congrArg₂ (fun p q : EReal => p + q) (h84 u) ?_
  show Ideal.log _ = _
  rw [cumsum2 _ _ _ _ ?_ b u (fun w => ((Real.exp (Lattice.alpha (B b) (L b) k.val w + B b k.val w - Lattice.lead (L b) (k.val + 1) w) : ℝ) : EReal)) ?_]
  · rw [← coe_sum, Ideal.log_coe, if_neg (Lattice.sum_exp_pos _ _).not_ge]
  · pointwise
  · intro w
    exact congrArg Ideal.exp (congrArg₂ (fun p q : EReal => p - q) (congrArg₂ (fun p q : EReal => p + q) (ha b w)
      ((frame_val _ _ _ k hs b w).trans (hb k b w))) (h84 w))

/-- One trip leaves the next row of the lattice as the carried row. -/
theorem step3_val (b : Fin 16) (u : Fin 64) :
    step_main_v50_3 V (ix2 b u) = ((Lattice.alpha (B b) (L b) (k.val + 1) u.val : ℝ) : EReal) :=
  next_val V k h2 B L hb hl ha b u

/-- One trip writes the next row of the lattice into the table, and no other row. -/
theorem step4_val (t : Fin 191) (b : Fin 16) (u : Fin 64) :
    step_main_v50_4 V (ix3 t b u) = if t = k then ((Lattice.alpha (B b) (L b) (k.val + 1) u.val : ℝ) : EReal) else V (Proc.devRef .tc main_v50_4) (ix3 t b u) := by
  have hs := start_val V k h2
  rw [← next_val V k h2 B L hb hl ha b u]
  have hu : (if t = k then (broadcastInDim S1x16x64 ![1, 2] bcast_S16x64_S1x16x64_1_2 (res_main_while0b_v105 V)) (ix3 0 b u) else V (Proc.devRef .tc main_v50_4) (ix3 t b u))
      = if t = k then res_main_while0b_v105 V (ix2 b u) else V (Proc.devRef .tc main_v50_4) (ix3 t b u) := by
    pointwise
  unfold step_main_v50_4
  have e := put_val (V (Proc.devRef .tc main_v50_4)) (broadcastInDim S1x16x64 ![1, 2] bcast_S16x64_S1x16x64_1_2 (res_main_while0b_v105 V))
    (fun k => (((![V (Proc.devRef .tc main_v50_2), constantI S_ 32 0#32, constantI S_ 32 0#32] : Fin 3 → (⟨S_, .i32⟩ : BufTy).Contents (Elt Ideal))) k (Shape.Idx.first h_S_)).toInt)
    updateFits_S191x16x64_S1x16x64 k hs t b u
  rw [id_eq]
  rw [hu] at e
  exact e

end loop
end Cert.ReferenceIdeal.Whole
-- ==== Proof.RefTotal.lean ====
/-
  What the whole reference computes, batch row by batch row over the real numbers.
-/
module

public import proofs.«01_k».proof.Proof.RefLoop

@[expose] public section

set_option maxRecDepth 16384

noncomputable section

namespace Cert.ReferenceIdeal.Whole
open Idealize.ShloMosaic Idealize.ShloMosaic.TcCoe Idealize.ShloMosaic.StableHlo
open Cert.ReferenceIdeal Cert.ReferenceIdeal.Gen Cert.ReferenceIdeal.Value
open Cert.KernelIdeal.Whole (bN lN bN_of lN_of lse coe_sum)

variable (m : (ℓ : Loc nD τ sig) → Buf (Elt Ideal) ℓ) (c : Dev nD)
variable (X : Fin 16 → Fin 192 → Fin 64 → Fin 512 → ℝ) (lab : Fin 16 → Fin 64 → Fin 512) (kb : Fin 512) (f y : Fin 16 → ℕ)
    (hX : ∀ b t u h, m ((c : Thread nD τ).loc main_arg0) (ix4 b t u h) = (X b t u h : EReal))
    (hlab : ∀ (b : Fin 16) (u : Fin 63), m ((c : Thread nD τ).loc main_arg1) (ix2 b u) = BitVec.ofNat 32 (lab b ⟨u.val, Nat.lt_succ_of_lt u.isLt⟩).val)
    (hk : m ((c : Thread nD τ).loc main_arg4) ix0 = BitVec.ofNat 32 kb.val)

/-- The buffers after the first stretch, … -/
def V1 : Valuation τ sig (Elt Ideal) := StableHlo.after hostOps0 (launchContents m c)
/-- … after the labels' logits are taken, … -/
def V2 : Valuation τ sig (Elt Ideal) := StableHlo.after hostOps0_1 (V1 m c)
/-- … after the normaliser is taken off, … -/
def V3 : Valuation τ sig (Elt Ideal) := StableHlo.after hostOps0_2 (V2 m c)
/-- … and after the running sums. -/
def V4 : Valuation τ sig (Elt Ideal) := StableHlo.after hostOps0_3 (V3 m c)

/-- What the buffers hold when the loop starts. -/
theorem entry_eq : entryContents preI m c = StableHlo.after hostOps0_4 (V4 m c) := by
  simp only [entryContents, afterL_cons, afterL_nil]; rfl

include hX in
/-- The normaliser is still there after the labels are taken. -/
theorem V2_v17 (b : Fin 16) (t : Fin 192) (u : Fin 64) : V2 m c (Proc.devRef .tc main_v17) (ix3 b t u) = ((lse (X b t u) : ℝ) : EReal) := by
  unfold V2
  rw [after_of_writes_sub hostOps0_1 _ hostOps0_1_writes (by decide)]
  exact v17_val _ (X b t u) b t u (hX b t u)

include hX hk in
/-- The blank log-probabilities, when the loop is about to start. -/
theorem V4_v32 (b : Fin 16) (t : Fin 192) (u : Fin 64) : V4 m c (Proc.devRef .tc main_v32) (ix3 b t u) = ((bN X kb b t.val u.val : ℝ) : EReal) := by
  unfold V4 V3 V2
  rw [after_of_writes_sub hostOps0_3 _ hostOps0_3_writes (by decide), after_of_writes_sub hostOps0_2 _ hostOps0_2_writes (by decide),
    after_of_writes_sub hostOps0_1 _ hostOps0_1_writes (by decide), bN_of X kb b t.val t.isLt u]
  exact v32_val _ (X b t u) kb hk b t u (hX b t u)

include hX hlab in
/-- The label log-probabilities, after the normaliser is taken off. -/
theorem V3_v39 (b : Fin 16) (t : Fin 192) (u : Fin 63) : V3 m c (Proc.devRef .tc main_v39) (ix3 b t u) = ((lN X lab b t.val u.val : ℝ) : EReal) := by
  have hu : u.val < 64 := by omega
  have e := lN_of X lab b t.val t.isLt ⟨u.val, hu⟩
  dsimp only at e
  rw [e, if_pos u.isLt]
  refine v39_val (V2 m c) b t u _ _ ?_ (V2_v17 m c X hX b t ⟨u.val, hu⟩)
  refine (v36_val (V1 m c) (fun b u => lab b ⟨u.val, by omega⟩) (fun b t u => ?_) b t u).trans ?_
  · exact (v34_val _ b t u).trans (hlab b u)
  · exact (v35_val _ b t u _).trans (hX b t ⟨u.val, hu⟩ _)

include hX hlab in
/-- The running sums of the label log-probabilities. -/
theorem V4_v41 (b : Fin 16) (t : Fin 192) (u : Fin 63) :
    V4 m c (Proc.devRef .tc main_v41) (ix3 b t u) = ((Lattice.lead (lN X lab b) t.val (u.val + 1) : ℝ) : EReal) := by
  refine (v41_val (V3 m c) b t u (fun k => ((lN X lab b t.val k : ℝ) : EReal)) (fun k => V3_v39 m c X lab hX hlab b t k)).trans ?_
  rw [← coe_sum]; rfl

/-- The column of zeros the running sums start from. -/
theorem V4_v40 (b : Fin 16) (t : Fin 192) :
    V4 m c (Proc.devRef .tc main_v40) (ix3 b t 0) = ((Lattice.lead (lN X lab b) t.val 0 : ℝ) : EReal) := by
  unfold V4 V3
  rw [after_of_writes_sub hostOps0_3 _ hostOps0_3_writes (by decide)]
  have e : StableHlo.after hostOps0_2 (V2 m c) (Proc.devRef .tc main_v40) (ix3 b t 0) = (0 : EReal) := by
    after_reads_simp
    pointwise
  rw [e]; simp [Lattice.lead]

include hX hlab hk

/-- Before trip `k` the loop carries frame `k` of the lattice, and the frames before it are stacked. -/
theorem atK_val (k : ℕ) (hk' : k ≤ 191) :
    (∀ (t : Fin 191) (b : Fin 16) (u : Fin 64), atK m k c (Proc.devRef .tc main_v50_0) (ix3 t b u) = ((bN X kb b t.val u.val : ℝ) : EReal))
    ∧ (∀ (t : Fin 191) (b : Fin 16) (u : Fin 64), atK m k c (Proc.devRef .tc main_v50_1) (ix3 t b u) = ((Lattice.lead (lN X lab b) (t.val + 1) u.val : ℝ) : EReal))
    ∧ (∀ (b : Fin 16) (u : Fin 64), atK m k c (Proc.devRef .tc main_v50_3) (ix2 b u) = ((Lattice.alpha (bN X kb b) (lN X lab b) k u.val : ℝ) : EReal))
    ∧ (∀ (t : Fin 191) (b : Fin 16) (u : Fin 64), t.val < k →
        atK m k c (Proc.devRef .tc main_v50_4) (ix3 t b u) = ((Lattice.alpha (bN X kb b) (lN X lab b) (t.val + 1) u.val : ℝ) : EReal)) := by
  induction k with
  | zero =>
    have e : atK m 0 c = StableHlo.after hostOps0_4 (V4 m c) := entry_eq m c
    rw [e]
    refine ⟨fun t b u => ?_, fun t b u => ?_, fun b u => ?_, fun t b u h => absurd h (Nat.not_lt_zero _)⟩
    · exact (e0_val _ t b u).trans (V4_v32 m c X kb hX hk b ⟨t.val, by omega⟩ u)
    · exact e1_val (V4 m c) (fun b => Lattice.lead (lN X lab b)) (fun b t => V4_v40 m c X lab b t) (fun b t u => V4_v41 m c X lab hX hlab b t u) t b u
    · rw [Lattice.alpha_zero_left]
      exact e3_val (V4 m c) (fun b => Lattice.lead (lN X lab b)) (fun b t => V4_v40 m c X lab b t) (fun b t u => V4_v41 m c X lab hX hlab b t u) b u
  | succ k ih =>
    obtain ⟨h0, h1, h3, h4⟩ := ih (by omega)
    have ht := trip_agree (atK m k c)
    have a0 := (ht main_v50_0 (by decide)).trans (STEP_main_v50_0 _)
    have a1 := (ht main_v50_1 (by decide)).trans (STEP_main_v50_1 _)
    have a3 := (ht main_v50_3 (by decide)).trans (STEP_main_v50_3 _)
    have a4 := (ht main_v50_4 (by decide)).trans (STEP_main_v50_4 _)
    have e : atK m (k + 1) c = afterL bodyI (StableHlo.after condOps (atK m k c)) := rfl
    rw [← e] at a0 a1 a3 a4
    have h2 : atK m k c (Proc.devRef .tc main_v50_2) = fun _ => BitVec.ofNat 32 (⟨k, by omega⟩ : Fin 191).val := by
      rw [atK_ctr]; funext _; simp [Scf.iv]
    rw [a0, a1, a3, a4]
    refine ⟨h0, h1, fun b u => ?_, fun t b u h => ?_⟩
    · exact step3_val (atK m k c) ⟨k, by omega⟩ h2 (bN X kb) (lN X lab) h0 h1 h3 b u
    · rw [step4_val (atK m k c) ⟨k, by omega⟩ h2 (bN X kb) (lN X lab) h0 h1 h3 t b u]
      by_cases hkt : t.val = k
      · rw [if_pos (Fin.ext hkt), hkt]
      · rw [if_neg (fun hh => hkt (congrArg Fin.val hh)), h4 t b u (by omega)]

/-- The reference's loss of each batch row: the lattice at its last node, plus the last blank, negated. -/
theorem ref_val (hf : ∀ b : Fin 16, m ((c : Thread nD τ).loc main_arg2) (ix1 b) = BitVec.ofNat 32 (f b + 1)) (hf' : ∀ b, f b < 192)
    (hy : ∀ b : Fin 16, m ((c : Thread nD τ).loc main_arg3) (ix1 b) = BitVec.ofNat 32 (y b)) (hy' : ∀ b, y b < 64) (b : Fin 16) :
    StableHlo.after hostOps0_5 (exitC m c) (Proc.devRef .tc main_v97) (ix1 b)
      = ((-(Lattice.alpha (bN X kb b) (lN X lab b) (f b) (y b) + bN X kb b (f b) (y b)) : ℝ) : EReal) := by
  refine v97_val (exitC m c) (fun b => Lattice.alpha (bN X kb b) (lN X lab b)) (bN X kb) f y hf' hy' (fun b u => ?_) (fun t b u => ?_) (fun b t u => ?_) (fun b => ?_) (fun b => ?_) b
  · rw [exit_keeps m c main_v44 (by decide), entry_eq, Lattice.alpha_zero_left]
    exact v44_val (V4 m c) (fun b => Lattice.lead (lN X lab b)) (fun b t => V4_v40 m c X lab b t) (fun b t u => V4_v41 m c X lab hX hlab b t u) b u
  · have e : exitC m c (Proc.devRef .tc main_v50_4) = atK m 191 c (Proc.devRef .tc main_v50_4) := by
      rw [exitC, after_of_writes_sub condOps _ condOps_writes (by decide)]
    rw [e]
    exact (atK_val m c X lab kb hX hlab hk 191 le_rfl).2.2.2 t b u t.isLt
  · rw [exit_keeps m c main_v32 (by decide), entry_eq, after_of_writes_sub hostOps0_4 _ hostOps0_4_writes (by decide)]
    exact V4_v32 m c X kb hX hk b t u
  · rw [exit_keeps m c main_arg2 (by decide), entry_keeps m c main_arg2 (by decide)]
    exact hf b
  · rw [exit_keeps m c main_arg3 (by decide), entry_keeps m c main_arg3 (by decide)]
    exact hy b

end Cert.ReferenceIdeal.Whole
-- ==== Proof.Algebraic.lean ====
/-
  The kernel's result and the reference's are the same array, whenever the arguments are in range.
-/
module

public import proofs.«01_k».proof.Defs
public import proofs.«01_k».proof.Proof.PreRange
public import proofs.«01_k».proof.Proof.KernelValue
public import proofs.«01_k».proof.Proof.RefTotal

@[expose] public section

noncomputable section

namespace Cert.Proof

open Idealize.ShloMosaic Idealize.ShloMosaic.TcCoe Idealize.SL.Sem

variable [Cert.Pre_in_range.Facts]

/-- From arguments in range and equal on both sides, the buffer the kernel returns and the buffer the reference
    returns hold the same loss for every batch row. -/
theorem losses_eq
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (h : Cert.Pre_KernelIdeal_in_range m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    StableHlo.after Cert.ReferenceIdeal.Gen.hostOps0_5 (Cert.ReferenceIdeal.Whole.exitC m' c) (Proc.devRef .tc Cert.ReferenceIdeal.main_v97)
      = Cert.KernelIdeal.Whole.W5 m g c (Proc.devRef .tc Cert.KernelIdeal.main_v29) := by
  obtain ⟨p0, p1, p2, p3, p4⟩ := Cert.Pre_in_range.Read.elements _ _ _ _ _ (h c)
  let X : Fin 16 → Fin 192 → Fin 64 → Fin 512 → ℝ := fun b t u k =>
    EReal.toReal (m ((c.tc : Thread Cert.KernelIdeal.nD Cert.KernelIdeal.τ).loc Cert.KernelIdeal.main_arg0) (ix4 b t u k))
  let lab : Fin 16 → Fin 64 → Fin 512 := fun b u =>
    if hu : u.val < 63 then ⟨(m ((c.tc : Thread Cert.KernelIdeal.nD Cert.KernelIdeal.τ).loc Cert.KernelIdeal.main_arg1) (ix2 b ⟨u.val, hu⟩)).toNat, p1 _⟩ else 0
  let f : Fin 16 → ℕ := fun b => (m ((c.tc : Thread Cert.KernelIdeal.nD Cert.KernelIdeal.τ).loc Cert.KernelIdeal.main_arg2) (ix1 b)).toNat - 1
  let y : Fin 16 → ℕ := fun b => (m ((c.tc : Thread Cert.KernelIdeal.nD Cert.KernelIdeal.τ).loc Cert.KernelIdeal.main_arg3) (ix1 b)).toNat
  let kb : Fin 512 := ⟨(m ((c.tc : Thread Cert.KernelIdeal.nD Cert.KernelIdeal.τ).loc Cert.KernelIdeal.main_arg4) ix0).toNat, p4 _⟩
  have hX (b : Fin 16) (t : Fin 192) (u : Fin 64) (k : Fin 512) :
      m ((c.tc : Thread Cert.KernelIdeal.nD Cert.KernelIdeal.τ).loc Cert.KernelIdeal.main_arg0) (ix4 b t u k) = ((X b t u k : ℝ) : EReal) := p0 _
  have hlab (b : Fin 16) (u : Fin 63) :
      m ((c.tc : Thread Cert.KernelIdeal.nD Cert.KernelIdeal.τ).loc Cert.KernelIdeal.main_arg1) (ix2 b u) = BitVec.ofNat 32 (lab b ⟨u.val, by omega⟩).val := by
    have e : lab b ⟨u.val, by omega⟩ = ⟨(m ((c.tc : Thread Cert.KernelIdeal.nD Cert.KernelIdeal.τ).loc Cert.KernelIdeal.main_arg1) (ix2 b u)).toNat, p1 _⟩ :=
      dif_pos u.isLt
    rw [e]
    exact Cert.Pre_in_range.Read.word_eq _
  have hf (b : Fin 16) : m ((c.tc : Thread Cert.KernelIdeal.nD Cert.KernelIdeal.τ).loc Cert.KernelIdeal.main_arg2) (ix1 b) = BitVec.ofNat 32 (f b + 1) := by
    have e : f b + 1 = (m ((c.tc : Thread Cert.KernelIdeal.nD Cert.KernelIdeal.τ).loc Cert.KernelIdeal.main_arg2) (ix1 b)).toNat :=
      Nat.sub_add_cancel (p2 (ix1 b)).1
    rw [e]
    exact Cert.Pre_in_range.Read.word_eq _
  have hf' (b : Fin 16) : f b < 192 := by
    have := p2 (ix1 b)
    show _ - 1 < 192
    omega
  have hy (b : Fin 16) : m ((c.tc : Thread Cert.KernelIdeal.nD Cert.KernelIdeal.τ).loc Cert.KernelIdeal.main_arg3) (ix1 b) = BitVec.ofNat 32 (y b) :=
    Cert.Pre_in_range.Read.word_eq _
  have hk : m ((c.tc : Thread Cert.KernelIdeal.nD Cert.KernelIdeal.τ).loc Cert.KernelIdeal.main_arg4) ix0 = BitVec.ofNat 32 kb.val :=
    Cert.Pre_in_range.Read.word_eq _
  have k (b : Fin 16) := Cert.KernelIdeal.Whole.kernel_val m g c X lab kb f y hX hlab hf hf' hy (fun b => p3 _) hk b
  have r (b : Fin 16) := Cert.ReferenceIdeal.Whole.ref_val m' c X lab kb f y
    (fun b t u k => (congrFun e0 _).trans (hX b t u k)) (fun b u => (congrFun e1 _).trans (hlab b u))
    ((congrFun e4 _).trans hk) (fun b => (congrFun e2 _).trans (hf b)) hf' (fun b => (congrFun e3 _).trans (hy b)) (fun b => p3 _) b
  funext i
  have hi : i = ix1 (i 0) := by funext a; fin_cases a; rfl
  rw [hi]
  exact (r (i 0)).trans (k (i 0)).symm

/-- The value claim: both programs end with equal losses and their arguments unchanged. -/
theorem losses : Cert.algebraic_KernelIdeal_ReferenceIdeal_pre_in_range (hKernelIdeal := Cert.KernelIdeal.Gen.facts)
    (hReferenceIdeal := Cert.ReferenceIdeal.Gen.facts) := by
  intro m g m' g' h ha
  refine ⟨fun c => Cert.KernelIdeal.Whole.W5 m g c Cert.KernelIdeal.main_v29, ?_, ?_⟩
  · refine (θ_run Cert.KernelIdeal.defs _ _).mono (fun r q c => ?_) (Cert.KernelIdeal.Whole.run_all (F := Ideal) m g)
    obtain ⟨q0, q1, q2, q3, q4, q5⟩ := q.1 c
    exact ⟨q5, q0, q1, q2, q3, q4⟩
  · refine (θ_run Cert.ReferenceIdeal.defs _ _).mono (fun r q c => ?_) (Cert.ReferenceIdeal.Whole.run_all (F := Ideal) m' g')
    obtain ⟨q5, q⟩ := q.1 c
    obtain ⟨a0, a1, a2, a3, a4⟩ := ha c
    exact ⟨q5.trans (losses_eq m g m' c h a0 a1 a2 a3 a4), q⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.BitsRun
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

/-- The kernel's frame: it ends, its arguments unchanged, every counter at zero. -/
theorem frame_kernel : Cert.quiescent_Kernel (hKernel := Cert.Kernel.Gen.facts) :=
  fun m ρ _ => Cert.Kernel.Whole.frame_all (F := Bits) m ρ

/-- The idealized kernel's frame. -/
theorem frame_ideal : Cert.quiescent_KernelIdeal (hKernelIdeal := Cert.KernelIdeal.Gen.facts) :=
  fun m ρ _ => Cert.KernelIdeal.Whole.frame_all (F := Ideal) m ρ

/-- The idealized reference's frame. -/
theorem frame_reference : Cert.quiescent_ReferenceIdeal (hReferenceIdeal := Cert.ReferenceIdeal.Gen.facts) :=
  fun m ρ _ => (θ_run Cert.ReferenceIdeal.defs _ _).mono (fun _ h => ⟨fun c => (h.1 c).2, h.2⟩) (Cert.ReferenceIdeal.Whole.run_all (F := Ideal) m ρ)

/-- The idealized kernel's frame, from arguments in range. -/
theorem frame_ideal_in_range : Cert.quiescent_KernelIdeal_pre_in_range (hKernelIdeal := Cert.KernelIdeal.Gen.facts)
    (hPre_in_range := Cert.Pre_in_range.Gen.facts) :=
  fun m ρ _ => Cert.KernelIdeal.Whole.frame_all (F := Ideal) m ρ

/-- The idealized reference's frame, from arguments in range. -/
theorem frame_reference_in_range : Cert.quiescent_ReferenceIdeal_pre_in_range (hReferenceIdeal := Cert.ReferenceIdeal.Gen.facts)
    (hPre_in_range := Cert.Pre_in_range.Gen.facts) :=
  fun m ρ _ => frame_reference m ρ trivial

/-- Everything the certificate claims. -/
theorem claim : Cert.Claim := ⟨Cert.Kernel.Gen.facts, Cert.KernelIdeal.Gen.facts, Cert.ReferenceIdeal.Gen.facts, Cert.Pre_in_range.Gen.facts,
  frame_kernel, frame_ideal, frame_ideal_in_range, frame_reference, frame_reference_in_range, trivial, losses⟩

end Cert.Proof

end
